-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S32x512 : Shape := ⟨2, ![32, 512]⟩
abbrev S512x512 : Shape := ⟨2, ![512, 512]⟩
abbrev S16x32x512 : Shape := ⟨3, ![16, 32, 512]⟩
abbrev S16 : Shape := ⟨1, ![16]⟩
abbrev S_ : Shape := ⟨0, ![]⟩
abbrev S1 : Shape := ⟨1, ![1]⟩
abbrev S1x32x512 : Shape := ⟨3, ![1, 32, 512]⟩
abbrev S8x32x512 : Shape := ⟨3, ![8, 32, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S32x512, .f32⟩
  | .local _ .vmem, ⟨0, _⟩ => ⟨S512x256, .f32⟩
  | .local _ .vmem, ⟨1, _⟩ => ⟨S256x512, .f32⟩
  | .local _ .vmem, ⟨2, _⟩ => ⟨S32x512, .f32⟩
  | .local _ .vmem, ⟨3, _⟩ => ⟨S512x512, .bf16⟩
  | .local _ .vmem, ⟨4, _⟩ => ⟨S16x32x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_66 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v75 : BitVec 32 := Scalar.addi v2 c1_i32_66
  let c16_i32_67 : BitVec 32 := 16#32
  let v76 : BitVec 32 := Scalar.remsi v75 c16_i32_67
  let c32_i32 : BitVec 32 := 32#32
  let v77 : BitVec 32 := Scalar.muli v76 c32_i32
  let c0_i32_75 : BitVec 32 := 0#32
  ![v77.toNat, 0]
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v75 : BitVec 32 := Scalar.addi v2 c1_i32_66
  let c16_i32_67 : BitVec 32 := 16#32
  let v76 : BitVec 32 := Scalar.remsi v75 c16_i32_67
  let c1_i32_71 : BitVec 32 := 1#32
  let v78 : BitVec 32 := Scalar.muli v76 c1_i32_71
  let v79 : BitVec 32 := Scalar.addi c0_i32_72 v78
  v79.toNat
def k0_dev17 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v87 : BitVec 32 := Scalar.addi v2 c2_i32_76
  let c16_i32_77 : BitVec 32 := 16#32
  let v88 : BitVec 32 := Scalar.remsi v87 c16_i32_77
  let c1_i32_82 : BitVec 32 := 1#32
  let v90 : BitVec 32 := Scalar.muli v88 c1_i32_82
  let v91 : BitVec 32 := Scalar.addi c0_i32_83 v90
  v91.toNat
def k0_dev18 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_87 : BitVec 32 := 3#32
  let v99 : BitVec 32 := Scalar.addi v2 c3_i32_87
  let c16_i32_88 : BitVec 32 := 16#32
  let v100 : BitVec 32 := Scalar.remsi v99 c16_i32_88
  let c1_i32_93 : BitVec 32 := 1#32
  let v102 : BitVec 32 := Scalar.muli v100 c1_i32_93
  let v103 : BitVec 32 := Scalar.addi c0_i32_94 v102
  v103.toNat
def k0_dev19 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_98 : BitVec 32 := 4#32
  let v111 : BitVec 32 := Scalar.addi v2 c4_i32_98
  let c16_i32_99 : BitVec 32 := 16#32
  let v112 : BitVec 32 := Scalar.remsi v111 c16_i32_99
  let c1_i32_104 : BitVec 32 := 1#32
  let v114 : BitVec 32 := Scalar.muli v112 c1_i32_104
  let v115 : BitVec 32 := Scalar.addi c0_i32_105 v114
  v115.toNat
def k0_dev20 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_109 : BitVec 32 := 5#32
  let v123 : BitVec 32 := Scalar.addi v2 c5_i32_109
  let c16_i32_110 : BitVec 32 := 16#32
  let v124 : BitVec 32 := Scalar.remsi v123 c16_i32_110
  let c1_i32_115 : BitVec 32 := 1#32
  let v126 : BitVec 32 := Scalar.muli v124 c1_i32_115
  let v127 : BitVec 32 := Scalar.addi c0_i32_116 v126
  v127.toNat
def k0_dev21 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_120 : BitVec 32 := 6#32
  let v135 : BitVec 32 := Scalar.addi v2 c6_i32_120
  let c16_i32_121 : BitVec 32 := 16#32
  let v136 : BitVec 32 := Scalar.remsi v135 c16_i32_121
  let c1_i32_126 : BitVec 32 := 1#32
  let v138 : BitVec 32 := Scalar.muli v136 c1_i32_126
  let v139 : BitVec 32 := Scalar.addi c0_i32_127 v138
  v139.toNat
def k0_dev22 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_131 : BitVec 32 := 7#32
  let v147 : BitVec 32 := Scalar.addi v2 c7_i32_131
  let c16_i32_132 : BitVec 32 := 16#32
  let v148 : BitVec 32 := Scalar.remsi v147 c16_i32_132
  let c1_i32_137 : BitVec 32 := 1#32
  let v150 : BitVec 32 := Scalar.muli v148 c1_i32_137
  let v151 : BitVec 32 := Scalar.addi c0_i32_138 v150
  v151.toNat
def k0_dev23 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_142 : BitVec 32 := 8#32
  let v159 : BitVec 32 := Scalar.addi v2 c8_i32_142
  let c16_i32_143 : BitVec 32 := 16#32
  let v160 : BitVec 32 := Scalar.remsi v159 c16_i32_143
  let c1_i32_148 : BitVec 32 := 1#32
  let v162 : BitVec 32 := Scalar.muli v160 c1_i32_148
  let v163 : BitVec 32 := Scalar.addi c0_i32_149 v162
  v163.toNat
def k0_dev24 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_153 : BitVec 32 := 9#32
  let v171 : BitVec 32 := Scalar.addi v2 c9_i32_153
  let c16_i32_154 : BitVec 32 := 16#32
  let v172 : BitVec 32 := Scalar.remsi v171 c16_i32_154
  let c1_i32_159 : BitVec 32 := 1#32
  let v174 : BitVec 32 := Scalar.muli v172 c1_i32_159
  let v175 : BitVec 32 := Scalar.addi c0_i32_160 v174
  v175.toNat
def k0_dev25 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_164 : BitVec 32 := 10#32
  let v183 : BitVec 32 := Scalar.addi v2 c10_i32_164
  let c16_i32_165 : BitVec 32 := 16#32
  let v184 : BitVec 32 := Scalar.remsi v183 c16_i32_165
  let c1_i32_170 : BitVec 32 := 1#32
  let v186 : BitVec 32 := Scalar.muli v184 c1_i32_170
  let v187 : BitVec 32 := Scalar.addi c0_i32_171 v186
  v187.toNat
def k0_dev26 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_175 : BitVec 32 := 11#32
  let v195 : BitVec 32 := Scalar.addi v2 c11_i32_175
  let c16_i32_176 : BitVec 32 := 16#32
  let v196 : BitVec 32 := Scalar.remsi v195 c16_i32_176
  let c1_i32_181 : BitVec 32 := 1#32
  let v198 : BitVec 32 := Scalar.muli v196 c1_i32_181
  let v199 : BitVec 32 := Scalar.addi c0_i32_182 v198
  v199.toNat
def k0_dev27 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_186 : BitVec 32 := 12#32
  let v207 : BitVec 32 := Scalar.addi v2 c12_i32_186
  let c16_i32_187 : BitVec 32 := 16#32
  let v208 : BitVec 32 := Scalar.remsi v207 c16_i32_187
  let c1_i32_192 : BitVec 32 := 1#32
  let v210 : BitVec 32 := Scalar.muli v208 c1_i32_192
  let v211 : BitVec 32 := Scalar.addi c0_i32_193 v210
  v211.toNat
def k0_dev28 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_197 : BitVec 32 := 13#32
  let v219 : BitVec 32 := Scalar.addi v2 c13_i32_197
  let c16_i32_198 : BitVec 32 := 16#32
  let v220 : BitVec 32 := Scalar.remsi v219 c16_i32_198
  let c1_i32_203 : BitVec 32 := 1#32
  let v222 : BitVec 32 := Scalar.muli v220 c1_i32_203
  let v223 : BitVec 32 := Scalar.addi c0_i32_204 v222
  v223.toNat
def k0_dev29 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_208 : BitVec 32 := 14#32
  let v231 : BitVec 32 := Scalar.addi v2 c14_i32_208
  let c16_i32_209 : BitVec 32 := 16#32
  let v232 : BitVec 32 := Scalar.remsi v231 c16_i32_209
  let c1_i32_214 : BitVec 32 := 1#32
  let v234 : BitVec 32 := Scalar.muli v232 c1_i32_214
  let v235 : BitVec 32 := Scalar.addi c0_i32_215 v234
  v235.toNat
def k0_dev30 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_219 : BitVec 32 := 15#32
  let v243 : BitVec 32 := Scalar.addi v2 c15_i32_219
  let c16_i32_220 : BitVec 32 := 16#32
  let v244 : BitVec 32 := Scalar.remsi v243 c16_i32_220
  let c1_i32_225 : BitVec 32 := 1#32
  let v246 : BitVec 32 := Scalar.muli v244 c1_i32_225
  let v247 : BitVec 32 := Scalar.addi c0_i32_226 v246
  v247.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_230 : BitVec 32 := 32#32
  let v255 : BitVec 32 := Scalar.muli v2 c32_i32_230
  let v256 : Index := Scalar.indexCast v255
  let c0_231 : Index := 0#32
  ![v256.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
# The mesh, the buffers and the semaphores of the reduce-scatter kernel

The kernel runs on sixteen devices.  Each device multiplies its own slice of the contracted axis (a partial product
of all 512 rows), hands every other device the 32 rows that device is to return, and adds up the sixteen blocks of
rows it holds in the end.

This file fixes the names everything else is written in, once for every device and every step:

* `tgt c r`, the device `r + 1` places after `c`, to which `c`'s transfer number `r` goes;
* `slotM r` and `rowM c r`, the landing slot `r + 1` and the rows of the partial product that belong to `tgt c r`;
* `sendQ r` and `recvQ r`, the semaphores of transfer `r`;
* the element sets of the slots and of the row blocks, and how they split the two scratch buffers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.Pipeline.ValueKit.Geometry

@[expose] public section

noncomputable section

namespace Cert.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Devices -/

set_option backward.proofsInPublic true in
/-- The device `j` places after `c`, counting around the sixteen. -/
def fwd (c : Dev nD) (j : Fin 16) : Dev nD := ⟨(c.val + j.val) % 16, Nat.mod_lt _ (by decide)⟩

/-- The device `c`'s transfer number `r` goes to, `r + 1` places after `c`. -/
def tgt (c : Dev nD) (r : Fin 15) : Dev nD := fwd c r.succ

/-- Its number. -/
theorem tgt_val (c : Dev nD) (r : Fin 15) : (tgt c r).val = (c.val + (r.val + 1)) % 16 := rfl

/-- Going `r + 1` places on and then `15 - r` places on is going once around. -/
theorem tgt_tgt_rev (c : Dev nD) (r : Fin 15) : tgt (tgt c r) r.rev = c := by revert c r; decide +kernel

/-- A device is reached from `c` by exactly one offset. -/
theorem fwd_bijective (c : Dev nD) : Function.Bijective (fwd c) := by revert c; decide +kernel

/-- No place on is the device itself. -/
theorem fwd_zero (c : Dev nD) : fwd c 0 = c := by revert c; decide +kernel

/-- Different transfers of a device go to different devices. -/
theorem tgt_injective (c : Dev nD) : Function.Injective (tgt c) := fun _ _ h =>
  Fin.succ_injective _ ((fwd_bijective c).injective h)

/-- The pairs (device, transfer) seen from the other end of the transfer. -/
def swap : Dev nD × Fin 15 ≃ Dev nD × Fin 15 where
  toFun p := (tgt p.1 p.2, p.2.rev)
  invFun p := (tgt p.1 p.2, p.2.rev)
  left_inv p := by simp only [tgt_tgt_rev, Fin.rev_rev]
  right_inv p := by simp only [tgt_tgt_rev, Fin.rev_rev]

/-! ## Buffers and semaphores -/

/-- Slot `j` lies in the communication buffer; -/
theorem inb_slot (j : Fin 16) : ∀ a, (![j.val, 0, 0] : Fin 3 → Nat) a + S1x32x512.size a ≤ S16x32x512.size a := by
  revert j; decide
/-- so does the landing slot of transfer `r`, -/
theorem inb_slot' (r : Fin 15) : ∀ a, (![r.val + 1, 0, 0] : Fin 3 → Nat) a + S1x32x512.size a ≤ S16x32x512.size a := by
  revert r; decide
/-- and its semaphore in the arrays of sixteen. -/
theorem inb_sem (r : Fin 15) : ∀ a, (![r.val + 1] : Fin 1 → Nat) a + S1.size a ≤ S16.size a := by
  revert r; decide

/-- The landing slot of the transfer that comes from `tgt c r`: slot `r + 1` of the communication buffer. -/
abbrev slotM (r : Fin 15) : Memref sig .tc .vmem S32x512 .bf16 :=
  ((Memref.whole cc0_scratch1).slice (Rect.unit (s := S16x32x512) ![r.val + 1, 0, 0] S1x32x512.size (inb_slot' r))
    (fun _ => rfl)).squeeze S32x512 squeezes_S1x32x512_S32x512

/-- The rows of the partial product that device `c` sends to `tgt c r`. -/
abbrev rowM (c : Dev nD) (r : Fin 15) : Memref sig .tc .vmem S32x512 .bf16 :=
  (Memref.whole cc0_scratch0).slice (Rect.unit (s := S512x512) (k0_off1 c (BitVec.ofNat 32 (1 + r.val))) S32x512.size
    (k0_off1_inb c r)) (fun _ => rfl)

/-- The barrier semaphore, and the two semaphores of transfer `r`. -/
abbrev barS : Sem sig := (SemArray.scalar (sig.barrier 0 rfl) : Sems sig S_).sem
/-- The semaphore of send `r`; -/
abbrev sendQ (r : Fin 15) : DmaSem sig :=
  ((cc0_scratch2.slice (Rect.unit (s := S16) ![r.val + 1] S1.size (inb_sem r))).squeeze S_ squeezes_S1_S_).sem
/-- of receive `r`. -/
abbrev recvQ (r : Fin 15) : DmaSem sig :=
  ((cc0_scratch3.slice (Rect.unit (s := S16) ![r.val + 1] S1.size (inb_sem r))).squeeze S_ squeezes_S1_S_).sem

/-- What one transfer credits: the count of a block of 32 rows. -/
abbrev N : ℕ := (slotM 0).view.dmaCredit
/-- It is not nothing. -/
theorem N_pos : 0 < N := View.dmaCredit_pos _ (by decide)
/-- The rows' amount is the slots': it goes by shape and element type. -/
theorem rowM_credit (c : Dev nD) (r : Fin 15) : (rowM c r).view.dmaCredit = N :=
  (by decide +kernel : ∀ b b' : Fin (sig.nBuf (Kind.table .tc .vmem)), sig.dmaCredit .tc (Kind.table .tc .vmem) b S32x512 .bf16
    = sig.dmaCredit .tc (Kind.table .tc .vmem) b' S32x512 .bf16) _ _

/-- The semaphores that take part: the barrier, the fifteen of the sends, the fifteen of the receives. -/
abbrev CK : Type := Unit ⊕ (Fin 15 ⊕ Fin 15)
/-- Each as a semaphore of its device. -/
abbrev csem : CK → SemLoc sig
  | .inl _ => .reg barS
  | .inr (.inl r) => .dma (sendQ r)
  | .inr (.inr r) => .dma (recvQ r)

/-- Which of them a semaphore is, if any. -/
def role : SemLoc sig → Option CK
  | .reg _ => some (.inl ())
  | .dma q =>
    if h : 4 ≤ q.val ∧ q.val - 4 < 15 then some (.inr (.inl ⟨q.val - 4, h.2⟩))
    else if h : 20 ≤ q.val ∧ q.val - 20 < 15 then some (.inr (.inr ⟨q.val - 20, h.2⟩))
    else none

/-- A semaphore that takes part is told to be that one. -/
theorem role_csem (k : CK) : role (csem k) = some k := by revert k; decide +kernel

/-- They are different semaphores. -/
theorem csem_injective : Function.Injective csem := fun a b h =>
  Option.some_injective _ (by rw [← role_csem a, ← role_csem b, h])

/-- The kernel's own semaphores: the two it declares and never uses (entry 0 of each array), the sends', the receives'. -/
abbrev osem : Fin 2 ⊕ (Fin 15 ⊕ Fin 15) → SemLoc sig
  | .inl i => .dma (if i = 0 then 3 else 19)
  | .inr k => csem (.inr k)

/-- The kernel's own semaphores are all different, and none is the pipeline's. -/
theorem ownSemFacts : Pipeline.OwnSemFacts cfg0.spec osem := by decide +kernel

/-! ## The slots and the row blocks -/

/-- The elements of slot `j` of the communication buffer. -/
def slotSet (j : Fin 16) : Finset S16x32x512.Idx := (Rect.unit (s := S16x32x512) ![j.val, 0, 0] S1x32x512.size (inb_slot j)).set

/-- An element lies in slot `j` when its first coordinate is `j`. -/
theorem mem_slotSet (j : Fin 16) (i : S16x32x512.Idx) : i ∈ slotSet j ↔ i 0 = j := by
  unfold slotSet
  rw [LoadRect.mem_set]
  constructor
  · intro h
    obtain ⟨x, hx, he⟩ := h 0
    refine Fin.ext (he.trans ?_)
    change x < 1 at hx
    show j.val + 1 * x = j.val
    omega
  · rintro rfl a
    match a with
    | ⟨0, _⟩ => exact ⟨0, Nat.one_pos, by show (i 0).val = (i 0).val + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

/-- Different slots share nothing. -/
theorem slotSet_disjoint {j j' : Fin 16} (h : j ≠ j') : Disjoint (slotSet j) (slotSet j') := by
  rw [Finset.disjoint_left]
  intro i h1 h2
  exact h (((mem_slotSet j i).mp h1).symm.trans ((mem_slotSet j' i).mp h2))

/-- The landing slot's view covers slot `r + 1`. -/
theorem slotM_set (r : Fin 15) : (slotM r).view.set = slotSet r.succ := by
  show (((View.whole cc0_scratch1).slice _).reshape _ _).set = _
  rw [View.set_reshape, View.set_slice_whole]; rfl

/-- The slots `0, …, k`: what a device holds of the communication buffer when the first `k` blocks have landed. -/
def lowSet (k : ℕ) : Finset S16x32x512.Idx := Finset.univ.filter fun i => (i 0).val ≤ k

/-- Before any landing it is slot 0; -/
theorem lowSet_zero : lowSet 0 = slotSet 0 := by
  ext i
  rw [mem_slotSet, lowSet, Finset.mem_filter]
  refine ⟨fun h => Fin.ext (Nat.le_zero.mp h.2), fun h => ⟨Finset.mem_univ _, ?_⟩⟩
  rw [h]; exact Nat.le_refl _

/-- each landing adds one slot, -/
theorem lowSet_succ (r : Fin 15) : lowSet (r.val + 1) = lowSet r.val ∪ slotSet r.succ := by
  ext i
  rw [Finset.mem_union, mem_slotSet, lowSet, lowSet, Finset.mem_filter, Finset.mem_filter]
  constructor
  · rintro ⟨-, h⟩
    by_cases hr : (i 0).val ≤ r.val
    · exact .inl ⟨Finset.mem_univ _, hr⟩
    · exact .inr (Fin.ext (by rw [Fin.val_succ]; omega))
  · rintro (⟨-, h⟩ | h)
    · exact ⟨Finset.mem_univ _, by omega⟩
    · exact ⟨Finset.mem_univ _, by rw [h]; exact Nat.le_refl _⟩

/-- a new one, -/
theorem lowSet_disjoint (r : Fin 15) : Disjoint (lowSet r.val) (slotSet r.succ) := by
  rw [Finset.disjoint_left]
  intro i h1 h2
  rw [lowSet, Finset.mem_filter] at h1
  have h := h1.2
  rw [(mem_slotSet _ _).mp h2, Fin.val_succ] at h
  omega

/-- and after fifteen it is the whole buffer. -/
theorem lowSet_last : lowSet 15 = Finset.univ := by
  ext i
  rw [lowSet, Finset.mem_filter]
  exact ⟨fun _ => Finset.mem_univ _, fun _ => ⟨Finset.mem_univ _, Nat.le_of_lt_succ (i 0).isLt⟩⟩

/-- Device `e`'s rows lie in the partial product. -/
theorem inb_rows (e : Dev nD) : ∀ a, (![32 * e.val, 0] : Fin 2 → Nat) a + S32x512.size a ≤ S512x512.size a := by
  revert e; decide

/-- The rows of the partial product that device `e` is to return. -/
def rowSet (e : Dev nD) : Finset S512x512.Idx := (Rect.unit (s := S512x512) ![32 * e.val, 0] S32x512.size (inb_rows e)).set

/-- A row is device `e`'s when it is one of the 32 from `32 e` on. -/
theorem mem_rowSet (e : Dev nD) (i : S512x512.Idx) : i ∈ rowSet e ↔ (i 0).val / 32 = e.val := by
  unfold rowSet
  rw [LoadRect.mem_set]
  constructor
  · intro h
    obtain ⟨x, hx, he⟩ := h 0
    change x < 32 at hx
    have he' : (i 0).val = 32 * e.val + 1 * x := he
    omega
  · intro h a
    match a with
    | ⟨0, _⟩ =>
      refine ⟨(i 0).val % 32, Nat.mod_lt _ (by decide), ?_⟩
      show (i 0).val = 32 * e.val + 1 * ((i 0).val % 32)
      omega
    | ⟨1, _⟩ => exact ⟨(i 1).val, (i 1).isLt, by show (i 1).val = 0 + 1 * (i 1).val; omega⟩

/-- Different devices' rows share nothing. -/
theorem rowSet_disjoint {e e' : Dev nD} (h : e ≠ e') : Disjoint (rowSet e) (rowSet e') := by
  rw [Finset.disjoint_left]
  intro i h1 h2
  exact h (Fin.ext (((mem_rowSet e i).mp h1).symm.trans ((mem_rowSet e' i).mp h2)))

/-- The printed offset of a transfer's source is the first row of the device it goes to, -/
theorem off1_eq (c : Dev nD) (r : Fin 15) : k0_off1 c (BitVec.ofNat 32 (1 + r.val)) = ![32 * (tgt c r).val, 0] := by
  rw [k0_off1_eq, tgt_val, Nat.add_assoc]

/-- so the view covers that device's rows. -/
theorem rowM_set (c : Dev nD) (r : Fin 15) : (rowM c r).view.set = rowSet (tgt c r) := by
  show ((View.whole cc0_scratch0).slice _).set = _
  rw [View.set_slice_whole]
  unfold rowSet
  rw [Rect.unit_congr (off1_eq c r) _ (inb_rows (tgt c r))]

/-- The whole communication buffer is its sixteen slots, -/
theorem slots_cover : (Finset.univ : Finset (Fin 16)).biUnion slotSet = Finset.univ := by
  ext i
  rw [Finset.mem_biUnion]
  exact ⟨fun _ => Finset.mem_univ _, fun _ => ⟨i 0, Finset.mem_univ _, (mem_slotSet _ _).mpr rfl⟩⟩

/-- and the whole partial product the row blocks of the sixteen devices, counted from any device on. -/
theorem rows_cover (c : Dev nD) : (Finset.univ : Finset (Fin 16)).biUnion (fun j => rowSet (fwd c j)) = Finset.univ := by
  ext i
  rw [Finset.mem_biUnion]
  refine ⟨fun _ => Finset.mem_univ _, fun _ => ?_⟩
  have hi : (i 0).val < 512 := (i 0).isLt
  obtain ⟨j, hj⟩ := (fwd_bijective c).surjective (⟨(i 0).val / 32, by show _ < 16; omega⟩ : Dev nD)
  exact ⟨j, Finset.mem_univ _, (mem_rowSet _ _).mpr (by rw [hj])⟩

/-! ## Where an index of a block lies in its buffer -/

/-- Row `x`, column `y` of a landing slot, in the communication buffer; -/
theorem slotM_emb (r : Fin 15) (x : Fin 32) (y : Fin 512) :
    (slotM r).view.emb (ix2 x y) = (ix3 (r.succ : Fin 16) x y : S16x32x512.Idx) := by
  refine (congrArg ((View.whole cc0_scratch1).slice (Rect.unit (s := S16x32x512) ![r.val + 1, 0, 0] S1x32x512.size
    (inb_slot' r))).emb (reshapeEquiv_ix2_1ab (a := 32) (b := 512) (by decide +kernel) x y)).trans ?_
  funext a
  refine Fin.ext ?_
  refine (ValueKit.view_emb_slice_whole_unit_val cc0_scratch1 _ _ (inb_slot' r) _ a).trans ?_
  match a with
  | ⟨0, _⟩ => exact Nat.add_zero _
  | ⟨1, _⟩ => exact Nat.zero_add _
  | ⟨2, _⟩ => exact Nat.zero_add _

/-- Row `x` of device `e`'s block, as a row of the whole product. -/
def rowIx (e : Dev nD) (x : Fin 32) : Fin 512 := ⟨32 * e.val + x.val, by have := e.isLt; have h : nD = 16 := rfl; omega⟩

/-- of the rows sent, in the partial product. -/
theorem rowM_emb (c : Dev nD) (r : Fin 15) (x : Fin 32) (y : Fin 512) :
    (rowM c r).view.emb (ix2 x y) = (ix2 (rowIx (tgt c r) x) y : S512x512.Idx) := by
  funext a
  refine Fin.ext ?_
  refine (ValueKit.view_emb_slice_whole_unit_val cc0_scratch0 _ _ (k0_off1_inb c r) _ a).trans
    ((congrArg (· + (ix2 x y a).val) (congrFun (off1_eq c r) a)).trans ?_)
  match a with
  | ⟨0, _⟩ => rfl
  | ⟨1, _⟩ => exact Nat.zero_add _

end Cert.RS

end
-- ==== Proof.Sched.lean ====
/-
# The protocol of the reduce-scatter kernel

Three kinds of semaphores take part, each with one round of use:

* the barrier of device `q`, with fifteen units.  Unit `e` is paid by `tgt q e`, and with it that device hands over
  its landing slot for `q`'s transfer number `e`;
* the semaphore of `c`'s send `r`, paid by the transfer itself when the rows have been read, which returns the rows;
* the semaphore of `c`'s receive `r`, paid by the transfer that comes from `tgt c r`, which brings slot `r + 1`
  filled with that device's rows.

A wait is allowed when everything still owed lies higher: barriers lie above the staging and send semaphores, receives
above barriers.
-/
module

public import proofs.«01_k».proof.Proof.Mesh

@[expose] public section

noncomputable section

namespace Cert.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The protocol's ghost state, up to fifteen duties a round; -/
abbrev UB : Type := URounds (GSem nD τ sig) (Fin 15)
/-- with the pipeline's. -/
abbrev UU : Type := UR sig nD τ × UB

local notation "𝕄" => MT nD τ sig Unit (Elt F) ℕ UU ℕ

/-- Where each of the two sits. -/
abbrev EP : Emb (UR sig nD τ) (MT nD τ sig Unit (Elt F) ℕ UU ℕ) := embL
/-- The protocol's. -/
abbrev ER : Emb UB (MT nD τ sig Unit (Elt F) ℕ UU ℕ) := embR

variable (m : (ℓ : Loc nD τ sig) → Buf (Elt F) ℓ)

/-! ## Cells -/

/-- A semaphore that takes part, on its device: -/
abbrev kcell (ck : Dev nD × CK) : GSem nD τ sig := ((ck.1 : Thread nD τ), csem ck.2)
/-- the barrier, -/
abbrev barCell (c : Dev nD) : GSem nD τ sig := kcell (c, .inl ())
/-- the semaphore of send `r`, -/
abbrev sendCell (c : Dev nD) (r : Fin 15) : GSem nD τ sig := kcell (c, .inr (.inl r))
/-- of receive `r`. -/
abbrev recvCell (c : Dev nD) (r : Fin 15) : GSem nD τ sig := kcell (c, .inr (.inr r))

/-- Different devices or roles are different semaphores. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## Contents -/

/-- Device `c`'s two input blocks as the kernel finds them in its staging buffers. -/
def aStg (c : Dev nD) : (cc0_stg0_0 : Ref sig .tc).ty.Contents (Elt F) :=
  (win0_0.blk (0 : Fin 1)).view.read (Elt F) (m ((c : Thread nD τ).loc main_arg0))
/-- The second. -/
def bStg (c : Dev nD) : (cc0_stg1_0 : Ref sig .tc).ty.Contents (Elt F) :=
  (win0_1.blk (0 : Fin 1)).view.read (Elt F) (m ((c : Thread nD τ).loc main_arg1))

/-- Device `c`'s partial product: all 512 rows, over its slice of the contracted axis. -/
def partF (c : Dev nD) : (cc0_scratch0 : Ref sig .tc).ty.Contents (Elt F) := k0_pay1 (aStg m c) (bStg m c)

/-- Device `c`'s communication buffer when everything has landed: slot `j` holds `c`'s rows of the partial product of
    the device `j` places on. -/
def commF (c : Dev nD) : (cc0_scratch1 : Ref sig .tc).ty.Contents (Elt F) := fun i : S16x32x512.Idx =>
  partF m (fwd c (i 0)) (ix2 (rowIx c (i 1)) (i 2))

/-- The offset of a whole buffer of three axes. -/
abbrev zeros3 : Fin 3 → Nat := ![0, 0, 0]

/-- The two halves of the communication buffer, eight slots each. -/
abbrev loM : Rect S16x32x512 := Rect.unit (s := S16x32x512) ![0, 0, 0] S8x32x512.size inb_S16x32x512_S8x32x512_0_0_0
/-- The upper one. -/
abbrev hiM : Rect S16x32x512 := Rect.unit (s := S16x32x512) ![8, 0, 0] S8x32x512.size inb_S16x32x512_S8x32x512_8_0_0

/-- The block of rows device `c` returns: its sixteen slots, added up in two halves. -/
def outAt (c : Dev nD) : (cc0_stg2_0 : Ref sig .tc).ty.Contents (Elt F) :=
  k0_pay4 (k0_pay3 ((Memref.whole cc0_scratch1).view.readAt (Elt F) loM.toLoadRect (commF m c)))
    ((Memref.whole cc0_scratch1).view.readAt (Elt F) hiM.toLoadRect (commF m c))

/-- The landing slot `r + 1` of device `c`, and the rows it sends as its transfer `r`, with their contents. -/
def slotPts (c : Dev nD) (r : Fin 15) (f : Buf (Elt F) ((slotM r).view.loc (c : Thread nD τ))) : sProp 𝕄 :=
  (slotM r).view.loc (c : Thread nD τ) ↦[(slotM r).view.set]{fullShare} f
/-- The rows. -/
def rowPts (c : Dev nD) (r : Fin 15) (f : Buf (Elt F) ((rowM c r).view.loc (c : Thread nD τ))) : sProp 𝕄 :=
  (rowM c r).view.loc (c : Thread nD τ) ↦[(rowM c r).view.set]{fullShare} f

omit [FloatOps F] in
instance slotPts_storable (c : Dev nD) (r : Fin 15) (f) : BI.Storable (upEmb : UEmb _ 𝕄) (slotPts (F := F) c r f) := by
  unfold slotPts; infer_instance
omit [FloatOps F] in
instance rowPts_storable (c : Dev nD) (r : Fin 15) (f) : BI.Storable (upEmb : UEmb _ 𝕄) (rowPts (F := F) c r f) := by
  unfold rowPts; infer_instance

/-- A transfer's block, read at its source and written at its landing slot, is what that slot is to hold: slot
    `15 - r` of `tgt c r` receives `c`'s rows for that device. -/
theorem landed (c : Dev nD) (r : Fin 15) (fd : Buf (Elt F) ((slotM r.rev).view.loc (tgt c r : Thread nD τ))) :
    ∀ i ∈ (slotM r.rev).view.set,
      (slotM r.rev).view.write (Elt F) fd ((rowM c r).view.read (Elt F) (partF m c)) Finset.univ i
        = commF m (tgt c r) i := by
  intro i hi
  obtain ⟨x, -, rfl⟩ := Finset.mem_map.mp hi
  obtain ⟨a, b, rfl⟩ : ∃ (a : Fin 32) (b : Fin 512), x = ix2 a b := ⟨x 0, x 1, eq_ix2 x⟩
  rw [View.write_emb_of_mem _ _ (Finset.mem_univ _), View.read_apply, slotM_emb, rowM_emb]
  show partF m c _ = partF m (fwd (tgt c r) r.rev.succ) _
  rw [show fwd (tgt c r) r.rev.succ = c from tgt_tgt_rev c r]

/-! ## The schedule -/

/-- What `tgt c e` hands over with unit `e` of `c`'s barrier: its landing slot for `c`'s transfer `e`. -/
def barPay (c : Dev nD) (e : Fin 15) : sProp 𝕄 := iprop(∃ f, slotPts (tgt c e) e.rev f)

/-- The duties, amounts and payloads, told by which semaphore it is. -/
def dutiesOf : Option CK → Finset (Fin 15)
  | some (.inl _) => Finset.univ
  | some (.inr _) => {0}
  | none => ∅
/-- The barrier's duties are one unit each, a transfer's the whole credit. -/
def amountOf : Option CK → ℕ
  | some (.inl _) => 1
  | _ => N
/-- What each duty hands over. -/
def payOf (c : Dev nD) (d : Fin 15) : Option CK → sProp 𝕄
  | some (.inl _) => barPay c d
  | some (.inr (.inl r)) => rowPts c r (partF m c)
  | some (.inr (.inr r)) => slotPts c r (commF m c)
  | none => iprop(emp)

/-- The schedule: one round at every semaphore that takes part. -/
def rd : Rounds.Schedule (GSem nD τ sig) (Fin 15) 𝕄 where
  duties g r := if r = 0 ∧ g.1.2 = .tc then dutiesOf (role g.2) else ∅
  unitless _ := False
  amount g _ _ := amountOf (role g.2)
  payload g _ d := payOf m g.1.1 d (role g.2)
  amount_pos g _ _ _ := by
    rcases role g.2 with _ | (_ | _)
    · exact N_pos
    · exact Nat.one_pos
    · exact N_pos

instance rd_payload_storable (g : GSem nD τ sig) (r : ℕ) (d : Fin 15) :
    BI.Storable (upEmb : UEmb _ 𝕄) ((rd (F := F) m).payload g r d) := by
  show BI.Storable upEmb (payOf m g.1.1 d (role g.2))
  rcases role g.2 with _ | (_ | (_ | _))
  · show BI.Storable upEmb iprop(emp); infer_instance
  · show BI.Storable upEmb (barPay _ _); unfold barPay; infer_instance
  · show BI.Storable upEmb (rowPts _ _ _); infer_instance
  · show BI.Storable upEmb (slotPts _ _ _); infer_instance

/-- The duties of a semaphore, by its role; -/
theorem duties_at (c : Dev nD) (k : CK) : (rd (F := F) m).duties (kcell (c, k)) 0 = dutiesOf (some k) := by
  show (if (0 : ℕ) = 0 ∧ (kcell (c, k)).1.2 = .tc then dutiesOf (role (csem k)) else ∅) = _
  rw [if_pos ⟨rfl, rfl⟩, role_csem]
/-- their amounts; -/
theorem amount_at (c : Dev nD) (k : CK) (d : Fin 15) : (rd (F := F) m).amount (kcell (c, k)) 0 d = amountOf (some k) := by
  show amountOf (role (csem k)) = _
  rw [role_csem]
/-- what they hand over; -/
theorem payload_at (c : Dev nD) (k : CK) (d : Fin 15) :
    (rd (F := F) m).payload (kcell (c, k)) 0 d = payOf m c d (some k) := by
  show payOf m c d (role (csem k)) = _
  rw [role_csem]
/-- none after the first round. -/
theorem duties_later (g : GSem nD τ sig) : ∀ r, 1 ≤ r → (rd (F := F) m).duties g r = ∅ :=
  fun r hr => if_neg fun h => by omega

/-- A barrier expects fifteen units in all, -/
theorem expect_bar (c : Dev nD) : (rd (F := F) m).expect (barCell c) 0 = 15 := by
  unfold Schedule.expect Schedule.amountOf
  rw [duties_at, Finset.sum_congr rfl fun d _ => amount_at m c (.inl ()) d]
  rfl
/-- a send or receive one transfer's credit. -/
theorem expect_xfer (c : Dev nD) (k : Fin 15 ⊕ Fin 15) : (rd (F := F) m).expect (kcell (c, .inr k)) 0 = N := by
  unfold Schedule.expect Schedule.amountOf
  rw [duties_at]
  exact (Finset.sum_singleton _ _).trans (amount_at m c (.inr k) 0)

/-- What a wait for all of a barrier's units returns: the fifteen landing slots on the other devices. -/
theorem rest_bar (c : Dev nD) :
    bigSep ((rd (F := F) m).duties (barCell c) 0 \ ∅) (fun d => (rd (F := F) m).payload (barCell c) 0 d)
      = bigSep Finset.univ fun e => barPay c e := by
  rw [Finset.sdiff_empty, duties_at]
  exact bigSep_congr fun d _ => payload_at m c (.inl ()) d
/-- What a wait on a send returns: the rows sent; on a receive: the slot filled. -/
theorem rest_send (c : Dev nD) (r : Fin 15) :
    bigSep ((rd (F := F) m).duties (sendCell c r) 0 \ ∅) (fun d => (rd (F := F) m).payload (sendCell c r) 0 d)
      = rowPts c r (partF m c) := by
  rw [Finset.sdiff_empty, duties_at]
  exact bigSep_singleton.trans (payload_at m c _ 0)
/-- A receive's wait returns the slot filled. -/
theorem rest_recv (c : Dev nD) (r : Fin 15) :
    bigSep ((rd (F := F) m).duties (recvCell c r) 0 \ ∅) (fun d => (rd (F := F) m).payload (recvCell c r) 0 d)
      = slotPts c r (commF m c) := by
  rw [Finset.sdiff_empty, duties_at]
  exact bigSep_singleton.trans (payload_at m c _ 0)

/-! ## Steps counted upwards: the steps from `k` on and the steps before `k` -/

/-- The steps from `k` on; -/
def upFrom (k : ℕ) : Finset (Fin 15) := Finset.univ.filter fun r => k ≤ r.val
/-- the steps before `k`. -/
def below (k : ℕ) : Finset (Fin 15) := Finset.univ.filter fun r => r.val < k

/-- From the start on: all steps. -/
theorem upFrom_zero : upFrom 0 = Finset.univ := by decide
/-- From the end on: none. -/
theorem upFrom_last : upFrom 15 = ∅ := by decide
/-- Before the start: none. -/
theorem below_zero : below 0 = ∅ := by decide
/-- Before the end: all steps. -/
theorem below_last : below 15 = Finset.univ := by decide
/-- One step taken off, -/
theorem upFrom_step (r : Fin 15) : upFrom r.val = insert r (upFrom (r.val + 1)) := by revert r; decide
/-- which then is gone. -/
theorem not_mem_upFrom (r : Fin 15) : r ∉ upFrom (r.val + 1) := by revert r; decide
/-- One step put to those done, -/
theorem below_step (r : Fin 15) : below (r.val + 1) = insert r (below r.val) := by revert r; decide
/-- which was not among them. -/
theorem not_mem_below (r : Fin 15) : r ∉ below r.val := by revert r; decide

omit [FloatOps F] in
/-- Resources of the steps from `r` on: step `r`'s and the later ones'; -/
theorem bigSep_upFrom (r : Fin 15) (Φ : Fin 15 → sProp 𝕄) :
    bigSep (upFrom r.val) Φ = iprop(Φ r ∗ bigSep (upFrom (r.val + 1)) Φ) := by
  rw [upFrom_step]; exact bigSep_insert (not_mem_upFrom r)
omit [FloatOps F] in
/-- of the steps done: step `r`'s and the earlier ones'. -/
theorem bigSep_below (r : Fin 15) (Φ : Fin 15 → sProp 𝕄) :
    bigSep (below (r.val + 1)) Φ = iprop(Φ r ∗ bigSep (below r.val) Φ) := by
  rw [below_step]; exact bigSep_insert (not_mem_below r)
omit [FloatOps F] in
/-- Sixteen summands are the first and the other fifteen. -/
theorem bigSep_first (Φ : Fin 16 → sProp 𝕄) :
    bigSep Finset.univ Φ = iprop(Φ 0 ∗ bigSep Finset.univ fun r : Fin 15 => Φ r.succ) := by
  rw [Fin.univ_succ, Finset.cons_eq_insert, bigSep_insert (by simp [Fin.succ_ne_zero]), bigSep_map]; rfl

/-! ## What a device owes -/

/-- From step `k` on: the credits of the transfers still to be sent, -/
def owesR (c : Dev nD) (k : ℕ) : CellTallies nD τ sig Unit :=
  ∑ r ∈ upFrom k, tallyAt (recvCell (tgt c r) r.rev) () N
/-- and, before the transfers, the units still to be signalled. -/
def owesB (c : Dev nD) (k : ℕ) : CellTallies nD τ sig Unit :=
  owesR c 0 + ∑ r ∈ upFrom k, tallyAt (barCell (tgt c r)) () 1

/-- A transfer takes its credit off what is owed; -/
theorem owesR_step (c : Dev nD) (r : Fin 15) :
    owesR c r.val = owesR c (r.val + 1) + tallyAt (recvCell (tgt c r) r.rev) () N := by
  unfold owesR; rw [upFrom_step, Finset.sum_insert (not_mem_upFrom r), add_comm]
/-- a signal takes its unit off. -/
theorem owesB_step (c : Dev nD) (r : Fin 15) :
    owesB c r.val = owesB c (r.val + 1) + tallyAt (barCell (tgt c r)) () 1 := by
  unfold owesB; rw [upFrom_step, Finset.sum_insert (not_mem_upFrom r), add_assoc]
  congr 1; exact add_comm _ _
/-- After the transfers nothing is owed; -/
theorem owesR_last (c : Dev nD) : owesR c 15 = 0 := by unfold owesR; rw [upFrom_last, Finset.sum_empty]
/-- after the signals, the transfers. -/
theorem owesB_last (c : Dev nD) : owesB c 15 = owesR c 0 := by unfold owesB; rw [upFrom_last, Finset.sum_empty, add_zero]

/-- A sum of tallies, read at one semaphore. -/
theorem sum_tally_apply (S : Finset (Fin 15)) (t : Fin 15 → CellTallies nD τ sig Unit) (g : GSem nD τ sig) (u : Unit) :
    (∑ r ∈ S, t r) g u = ∑ r ∈ S, t r g u := by
  rw [Finset.sum_apply, Finsupp.finset_sum_apply]

/-- If a sum of tallies owes at a semaphore, it is one of theirs. -/
theorem sum_tally_pos {S : Finset (Fin 15)} {gs : Fin 15 → GSem nD τ sig} {n : ℕ} {g : GSem nD τ sig} {u : Unit}
    (h : 0 < (∑ r ∈ S, (tallyAt (gs r) () n : CellTallies nD τ sig Unit)) g u) : ∃ r, g = gs r := by
  rw [sum_tally_apply] at h
  obtain ⟨r, -, hr⟩ := Finset.exists_ne_zero_of_sum_ne_zero (Nat.ne_of_gt h)
  refine ⟨r, ?_⟩
  by_contra hn
  rw [tallyAt_apply, if_neg (fun h' => hn h'.1)] at hr
  exact hr rfl

/-- Transfers owe at receives only; -/
theorem owesR_pos {c : Dev nD} {k : ℕ} {g : GSem nD τ sig} {u : Unit} (h : 0 < owesR c k g u) :
    ∃ r, g = recvCell (tgt c r) r.rev := sum_tally_pos h
/-- with the signals, at receives and barriers. -/
theorem owesB_pos {c : Dev nD} {k : ℕ} {g : GSem nD τ sig} {u : Unit} (h : 0 < owesB c k g u) :
    (∃ r, g = recvCell (tgt c r) r.rev) ∨ ∃ r, g = barCell (tgt c r) := by
  unfold owesB at h
  rw [Pi.add_apply, Finsupp.add_apply] at h
  rcases Nat.eq_zero_or_pos (owesR c 0 g u) with h0 | h0
  · rw [h0, Nat.zero_add] at h; exact .inr (sum_tally_pos h)
  · exact .inl (owesR_pos h0)

/-! ## Levels -/

/-- Semaphores of the devices' own threads have a level; -/
def L (g : GSem nD τ sig) : Finset Unit := if g.1.2 = .tc then {()} else ∅
/-- Barriers at 1, receives at 2, everything else at 0. -/
def lvOf : Option CK → ℕ
  | some (.inl _) => 1
  | some (.inr (.inr _)) => 2
  | _ => 0
/-- the level of a semaphore. -/
def lv (g : GSem nD τ sig) (_ : Unit) : ℕ := lvOf (role g.2)

/-- Other threads' have none. -/
theorem L_of_ne (g : GSem nD τ sig) (h : g.1.2 ≠ .tc) : L g = ∅ := if_neg h
/-- The own threads' have one, -/
theorem L_tc (c : Dev nD) (sm : SemLoc sig) : () ∈ L ((c : Thread nD τ), sm) := by
  rw [show L ((c : Thread nD τ), sm) = {()} from if_pos rfl]; exact Finset.mem_singleton_self _
/-- that of its role. -/
theorem lv_at (c : Dev nD) (k : CK) (u : Unit) : lv (kcell (c, k)) u = lvOf (some k) := by
  show lvOf (role (csem k)) = _; rw [role_csem]

omit [FloatOps F] in
/-- A wait at a level below everything owed is allowed. -/
theorem mayWait_below (c : Dev nD) (sm : SemLoc sig) (n : ℕ) (O : CellTallies nD τ sig Unit) (hs : lvOf (role sm) ≤ n)
    (hO : ∀ g u, 0 < O g u → ∃ d k, g = kcell (d, k) ∧ n < lvOf (some k)) :
    (levAts L lv : sProp 𝕄) ⊢ MayWait (c : Thread nD τ) sm () O :=
  MayOwe.of_cut (L := L) (lev := lv) n (fun p hp => by rw [Finset.mem_singleton.mp hp]; exact L_tc c sm)
    (fun g u hg => by obtain ⟨d, k, rfl, -⟩ := hO g u hg; exact L_tc d (csem k))
    (fun p hp => by rw [Finset.mem_singleton.mp hp]; exact hs)
    (fun g u hg => by obtain ⟨d, k, rfl, h⟩ := hO g u hg; rw [lv_at]; exact h)

omit [FloatOps F] in
/-- A wait at level 0 is allowed at launch, and when nothing is owed; -/
theorem mayWait_stage (c : Dev nD) (q : DmaSem sig) (hq : lvOf (role (.dma q)) ≤ 0) (O : CellTallies nD τ sig Unit)
    (hO : O = owesB c 0 ∨ O = 0) : (levAts L lv : sProp 𝕄) ⊢ MayWait (c : Thread nD τ) (.dma q) () O := by
  rcases hO with rfl | rfl
  · refine mayWait_below c _ 0 _ hq fun g u hg => ?_
    rcases owesB_pos hg with ⟨r, rfl⟩ | ⟨r, rfl⟩
    · exact ⟨_, _, rfl, Nat.two_pos⟩
    · exact ⟨_, _, rfl, Nat.one_pos⟩
  · rw [MayWait_zero]; iintro -; iempintro

omit [FloatOps F] in
/-- the barrier's when only the transfers' credits are owed. -/
theorem mayWait_bar (c : Dev nD) : (levAts L lv : sProp 𝕄) ⊢ MayWait (c : Thread nD τ) (csem (.inl ())) () (owesR c 0) :=
  mayWait_below c _ 1 _ (by rw [role_csem]; decide) fun g u hg => by
    obtain ⟨r, rfl⟩ := owesR_pos hg
    exact ⟨_, _, rfl, Nat.one_lt_two⟩

/-! ## What a device starts from and ends with -/

/-- The invariants of all the semaphores that take part, and that each is at its round. -/
def records (K : Dev nD × CK → ℕ) : sProp 𝕄 :=
  iprop((bigSep Finset.univ fun ck : Dev nD × CK => cellInv ER (rd m) (K ck) (kcell ck))
    ∗ bigSep Finset.univ fun ck : Dev nD × CK => reached ER (kcell ck) 0)

instance records_persistent (K : Dev nD × CK → ℕ) : BI.Persistent (records m K) := by unfold records; infer_instance

/-- One of the invariants; -/
theorem records_inv (K : Dev nD × CK → ℕ) (c : Dev nD) (k : CK) :
    records m K ⊢ cellInv ER (rd m) (K (c, k)) (kcell (c, k)) := by
  unfold records
  iintro ⟨HI, -⟩
  iapply (show (bigSep Finset.univ fun ck : Dev nD × CK => (cellInv ER (rd m) (K ck) (kcell ck) : sProp 𝕄))
    ⊢ cellInv ER (rd m) (K (c, k)) (kcell (c, k)) from bigSep_elim (Finset.mem_univ (c, k)))
  iexact HI
/-- one of the rounds reached. -/
theorem records_reached (K : Dev nD × CK → ℕ) (c : Dev nD) (k : CK) : records m K ⊢ reached ER (kcell (c, k)) 0 := by
  unfold records
  iintro ⟨-, HR⟩
  iapply (show (bigSep Finset.univ fun ck : Dev nD × CK => (reached ER (kcell ck) 0 : sProp 𝕄))
    ⊢ reached ER (kcell (c, k)) 0 from bigSep_elim (Finset.mem_univ (c, k)))
  iexact HR

/-- The right to make each of its payments: one unit of every other device's barrier, the credit of each receive it
    feeds, the credit of each of its own sends. -/
def payToks (c : Dev nD) : sProp 𝕄 :=
  iprop((bigSep Finset.univ fun r : Fin 15 => dutyTok ER (barCell (tgt c r)) 0 r.rev)
    ∗ (bigSep Finset.univ fun r : Fin 15 => dutyTok ER (recvCell (tgt c r) r.rev) 0 0)
    ∗ bigSep Finset.univ fun r : Fin 15 => dutyTok ER (sendCell c r) 0 0)

/-- Where it stands at each of its own semaphores, and those rights. -/
def linear (c : Dev nD) : sProp 𝕄 :=
  iprop((bigSep Finset.univ fun k : CK => atPos ER (kcell (c, k)) 0 ∅ 0) ∗ payToks c)

/-- The two semaphores the kernel declares and never uses, at zero. -/
def spare (c : Dev nD) : sProp 𝕄 :=
  bigSep Finset.univ fun i : Fin 2 => semVal ((c : Thread nD τ), osem (.inl i)) 0

/-- What a device holds when the invariants are made. -/
def G' (c : Dev nD) : sProp 𝕄 := iprop((∃ K, records m K ∗ linear c) ∗ spare c)

/-- What it starts from: that, and the credits for what it waits for. -/
def start (c : Dev nD) : sProp 𝕄 :=
  iprop(G' m c ∗ cred (tallyAt (barCell c) () 15)
    ∗ (bigSep Finset.univ fun r : Fin 15 => cred (tallyAt (recvCell c r) () N)) ∗ levAts L lv)

/-- The two scratch buffers, whatever they hold. -/
def scratch (c : Dev nD) : sProp 𝕄 :=
  iprop((∃ f, ((c : Thread nD τ).loc cc0_scratch0) ↦{fullShare} f) ∗ ∃ f, ((c : Thread nD τ).loc cc0_scratch1) ↦{fullShare} f)

/-- At the start: that and the scratch buffers. -/
def Φ₀ (c : Dev nD) : sProp 𝕄 := iprop(start m c ∗ scratch c)
/-- At the end: the scratch buffers, and every semaphore of the device at zero. -/
def Φ₁ (c : Dev nD) : sProp 𝕄 :=
  iprop(scratch c ∗ spare c ∗ bigSep Finset.univ fun k : CK => semVal (kcell (c, k)) 0)

/-- The call's data: arrays as found, what the body leaves staged, the states before and after it, and what is owed then. -/
def dats (_ : Fin 1) (c : Dev nD) : Dat τ (Elt F) Unit ℕ UU ℕ cfg0 c where
  A w := m ((cfg0.win w).arr.view.loc (c : Thread nD τ))
  after w _ := match w with
    | ⟨0, _⟩ => aStg m c
    | ⟨1, _⟩ => bStg m c
    | ⟨2, _⟩ => outAt m c
  Φ t := match t with
    | ⟨0, _⟩ => Φ₀ m c
    | ⟨_ + 1, _⟩ => Φ₁ c
  q _ := fullShare
  owed t := match t with
    | ⟨0, _⟩ => owesB c 0
    | ⟨_ + 1, _⟩ => 0

end Cert.RS

end
-- ==== Proof.Steps.lean ====
/-
# The kernel's steps

One lemma for each kind of step the kernel repeats — signal, send, wait for a receive, wait for a send —, stated for
the step's number `r`, and one for each of its single stretches.  Each takes the state before the step, `S k`, to the
state after it, `S (k + 1)`, with whatever else the device holds (`R`) carried along.

* `SA c k`: the first `k` signals are given; the landing slots from `k` on are still the device's own.
* `SB c k`: the first `k` transfers are on their way; from `k` on the device holds the rows to send and the slot they
  go to.
* `SC c k`: the first `k` blocks have landed: slots `0, …, k` hold what they are to hold.
* `SD c k`: the first `k` transfers have been read out: their rows are the device's own again.
-/
module

public import proofs.«01_k».proof.Proof.Sched

@[expose] public section

noncomputable section

namespace Cert.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop needs a measure. -/
abbrev 𝒱₀ : Variants := Variants.none

/-- Device `c` can run `p` and end with `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The states -/

/-- What every step may use. -/
def ctx (K : Dev nD × CK → ℕ) : sProp 𝕄 := iprop(records m K ∗ levAts L lv)
instance ctx_persistent (K : Dev nD × CK → ℕ) : BI.Persistent (ctx m K) := by unfold ctx; infer_instance

/-- The device owes `O`. -/
def due (c : Dev nD) (O : CellTallies nD τ sig Unit) : sProp 𝕄 := iprop(∃ W, owes (c : Thread nD τ) O W)

/-- Elements `S` of the partial product's buffer, holding `f`; -/
abbrev buf0 (c : Dev nD) (S : Finset S512x512.Idx) (f : (cc0_scratch0 : Ref sig .tc).ty.Contents (Elt F)) : sProp 𝕄 :=
  ((c : Thread nD τ).loc cc0_scratch0) ↦[S]{fullShare} f
/-- of the communication buffer. -/
abbrev buf1 (c : Dev nD) (S : Finset S16x32x512.Idx) (f : (cc0_scratch1 : Ref sig .tc).ty.Contents (Elt F)) : sProp 𝕄 :=
  ((c : Thread nD τ).loc cc0_scratch1) ↦[S]{fullShare} f

/-- Before signal `k`: what is owed, the right to each further signal, and the slot that goes with it. -/
def SA (c : Dev nD) (k : ℕ) : sProp 𝕄 :=
  iprop(due c (owesB c k)
    ∗ bigSep (upFrom k) fun r => iprop(dutyTok ER (barCell (tgt c r)) 0 r.rev ∗ ∃ f, slotPts c r f))

/-- The rights to pay that transfer `r` uses: at the receiver and at the sender. -/
def sendToks (c : Dev nD) (r : Fin 15) : sProp 𝕄 :=
  iprop(dutyTok ER (recvCell (tgt c r) r.rev) 0 0 ∗ dutyTok ER (sendCell c r) 0 0)

/-- Before transfer `k`: for each further one the rights, the slot it lands in and the rows it sends; for each sent one the credit to wait for it. -/
def SB (c : Dev nD) (k : ℕ) : sProp 𝕄 :=
  iprop(due c (owesR c k)
    ∗ (bigSep (upFrom k) fun r => iprop(sendToks c r ∗ barPay c r ∗ rowPts c r (partF m c)))
    ∗ bigSep (below k) fun r => cred (tallyAt (sendCell c r) () N))

/-- Before the wait for receive `k`: the slots landed so far, and for each further one the credit to wait. -/
def SC (c : Dev nD) (k : ℕ) : sProp 𝕄 :=
  iprop(due c 0
    ∗ (bigSep (upFrom k) fun r => iprop(atPos ER (recvCell c r) 0 ∅ 0 ∗ cred (tallyAt (recvCell c r) () N)))
    ∗ buf1 c (lowSet k) (commF m c)
    ∗ bigSep (below k) fun r => atPos ER (recvCell c r) 1 ∅ 0)

/-- Before the wait for send `k`: the rows that are back, and for each further send the credit to wait. -/
def SD (c : Dev nD) (k : ℕ) : sProp 𝕄 :=
  iprop(due c 0
    ∗ (bigSep (upFrom k) fun r => iprop(atPos ER (sendCell c r) 0 ∅ 0 ∗ cred (tallyAt (sendCell c r) () N)))
    ∗ bigSep (below k) fun r => iprop(rowPts c r (partF m c) ∗ atPos ER (sendCell c r) 1 ∅ 0))

/-! ## The repeated steps -/

variable {c : Dev nD} {K : Dev nD × CK → ℕ} {α : Type}

/-- One invariant of the context; -/
theorem ctx_inv (d : Dev nD) (k : CK) : ctx m K ⊢ cellInv ER (rd m) (K (d, k)) (kcell (d, k)) := by
  unfold ctx; iintro ⟨H, -⟩; iapply (records_inv m K d k); iexact H
/-- one round reached. -/
theorem ctx_reached (d : Dev nD) (k : CK) : ctx m K ⊢ reached ER (kcell (d, k)) 0 := by
  unfold ctx; iintro ⟨H, -⟩; iapply (records_reached m K d k); iexact H

/-- Each of the fifteen numbers is a duty at a barrier; -/
theorem mem_bar (d : Dev nD) (e : Fin 15) : e ∈ (rd (F := F) m).duties (barCell d) 0 := by
  rw [duties_at]; exact Finset.mem_univ _
/-- number 0 is the duty at a send or receive. -/
theorem mem_xfer (d : Dev nD) (k : Fin 15 ⊕ Fin 15) : 0 ∈ (rd (F := F) m).duties (kcell (d, .inr k)) 0 := by
  rw [duties_at]; exact Finset.mem_singleton_self _
/-- A device's landing slot is what its signal is to hand over. -/
theorem pay_bar (r : Fin 15) : iprop(∃ f, slotPts c r f) ⊢ (rd (F := F) m).payload (barCell (tgt c r)) 0 r.rev := by
  rw [payload_at]
  show _ ⊢ barPay (tgt c r) r.rev
  unfold barPay
  rw [tgt_tgt_rev, Fin.rev_rev]

omit [FloatOps F] in
/-- A landing slot, as elements of the communication buffer; -/
theorem slotPts_eq (d : Dev nD) (r : Fin 15) (f : (cc0_scratch1 : Ref sig .tc).ty.Contents (Elt F)) :
    slotPts d r f = buf1 d (slotSet r.succ) f := by unfold slotPts; rw [slotM_set]
omit [FloatOps F] in
/-- the rows sent, as elements of the partial product. -/
theorem rowPts_eq (d : Dev nD) (r : Fin 15) (f : (cc0_scratch0 : Ref sig .tc).ty.Contents (Elt F)) :
    rowPts d r f = buf0 d (rowSet (tgt d r)) f := by unfold rowPts; rw [rowM_set]
omit [FloatOps F] in
/-- One more landed slot. -/
theorem grow (d : Dev nD) (r : Fin 15) (f : (cc0_scratch1 : Ref sig .tc).ty.Contents (Elt F)) :
    iprop(buf1 d (lowSet r.val) f ∗ slotPts d r f) ⊢ buf1 d (lowSet (r.val + 1)) f := by
  rw [slotPts_eq, lowSet_succ]
  exact (pointsTo_union (ℓ := (d : Thread nD τ).loc cc0_scratch1) (lowSet_disjoint r)).2

/-- Signal number `r`: one unit to the barrier of `tgt c r`, and with it the slot its transfer to `c` lands in. -/
theorem step_signal (r : Fin 15) {R : sProp 𝕄} {Q : α → sProp 𝕄} {n : Dev nD} (hn : n = tgt c r) {b : ℤ} (hb : b = ((1 : ℕ) : ℤ))
    {k : PUnit → Prog (TpuEff nD τ sig (Elt F) Λ₀ .tc) α}
    (h : iprop(ctx m K ∗ SA c (r.val + 1) ∗ R) ⊢ run c (k ⟨⟩) Q) :
    iprop(ctx m K ∗ SA c r.val ∗ R) ⊢ run c (.op (.semSignal (n, .tc) barS b) k) Q := by
  subst hn hb
  unfold SA due at *
  rw [bigSep_upFrom]
  iintro ⟨#Hctx, ⟨⟨%W, HO⟩, ⟨Htok, Hslot⟩, Hrest⟩, HR⟩
  iapply (Rounds.wp_signal 𝒱₀ ER (rd m) (c : Thread nD τ) none (dst := (tgt c r : Thread nD τ)) (κ := K (tgt c r, .inl ()))
      (d := r.rev) (r := 0) (mem_bar m (tgt c r) r.rev) (amount_at m (tgt c r) (.inl ()) r.rev) ()
      (owesB c (r.val + 1)) (owesB_step c r)) $$ [HO Htok Hslot]
  · isplitr; · iapply (ctx_inv m (tgt c r) (.inl ())); iexact Hctx
    isplitl [HO]; · iexact HO
    isplitl [Htok]; · iexact Htok
    isplitl [Hslot]
    · iapply (pay_bar m r); iexact Hslot
    · iapply (ctx_reached m (tgt c r) (.inl ())); iexact Hctx
  iintro HO
  iapply h
  isplitr; · iexact Hctx
  isplitl [HO Hrest]
  · isplitl [HO]
    · iexists W; iexact HO
    · iexact Hrest
  · iexact HR

/-- Transfer number `r`: `c`'s rows for `tgt c r`, to its slot `15 - r`. -/
theorem step_send (r : Fin 15) {R : sProp 𝕄} {Q : α → sProp 𝕄} {n : Dev nD} (hn : n = tgt c r)
    {hsc : (slotM r.rev : Memref sig (Dev.tc n : Thread nD τ).2.kind .vmem S32x512 .bf16).view.ref.isScScratch = false}
    {hsrc : (rowM c r).view.WordExact} {hdst : (slotM r.rev).view.WordExact}
    {hsem : DmaTarget.Typed .vmem (.dma (recvQ r.rev))
      (.remote (Dev.tc n : Thread nD τ) (slotM r.rev) (.dma (sendQ r)) hsc)}
    {k : PUnit → Prog (TpuEff nD τ sig (Elt F) Λ₀ .tc) α}
    (h : iprop(ctx m K ∗ SB m c (r.val + 1) ∗ R) ⊢ run c (k ⟨⟩) Q) :
    iprop(ctx m K ∗ SB m c r.val ∗ R) ⊢ run c (.op (.enqueueDma (rowM c r)
      (.remote (Dev.tc n : Thread nD τ) (slotM r.rev) (.dma (sendQ r)) hsc) (.dma (recvQ r.rev)) hsrc hdst hsem) k) Q := by
  subst hn
  unfold SB due barPay sendToks at *
  rw [bigSep_upFrom]
  rw [bigSep_below] at h
  iintro ⟨#Hctx, ⟨⟨%W, HO⟩, ⟨⟨⟨HtV, HtS⟩, ⟨%fd, Hdst⟩, Hsrc⟩, Hrest⟩, Hcr⟩, HR⟩
  unfold slotPts rowPts at *
  iapply (Rounds.wp_send_pointsTo 𝒱₀ ER (rd m) (c : Thread nD τ) none (κ₁ := K (c, .inr (.inl r)))
      (κ₂ := K (tgt c r, .inr (.inr r.rev))) (r₁ := 0) (r₂ := 0) (d₁ := 0) (d₂ := 0) (fd := fd) (fs := partF m c)
      (mem_xfer m c (.inl r))
      (mem_xfer m (tgt c r) (.inr r.rev))
      () () N rfl (amount_at m c (.inr (.inl r)) 0) (amount_at m (tgt c r) (.inr (.inr r.rev)) 0)
      (owesR c (r.val + 1)) (owesR_step c r) (W := W)
      (by rw [payload_at m c (.inr (.inl r))]; exact BI.Entails.refl _)
      (by
        rw [payload_at m (tgt c r) (.inr (.inr r.rev))]
        exact Entails.of_eq (pointsTo_congr (landed m c r fd)))) $$ [HO HtV HtS Hdst Hsrc]
  · isplitr; · iapply (ctx_inv m c (.inr (.inl r))); iexact Hctx
    isplitr; · iapply (ctx_inv m (tgt c r) (.inr (.inr r.rev))); iexact Hctx
    isplitl [Hsrc]; · iexact Hsrc
    isplitl [Hdst]; · iexact Hdst
    isplitl [HO]; · iexact HO
    isplitl [HtS]; · iexact HtS
    isplitr; · iapply (ctx_reached m c (.inr (.inl r))); iexact Hctx
    isplitl [HtV]; · iexact HtV
    iapply (ctx_reached m (tgt c r) (.inr (.inr r.rev))); iexact Hctx
  iintro ⟨HcS, HO⟩
  iapply h
  isplitr; · iexact Hctx
  isplitl [HO Hrest Hcr HcS]
  · isplitl [HO]
    · iexists W; iexact HO
    isplitl [Hrest]; · iexact Hrest
    isplitl [HcS] <;> iassumption
  · iexact HR

/-- The wait for receive `r`: slot `r + 1` has landed. -/
theorem step_recv (r : Fin 15) {R : sProp 𝕄} {Q : α → sProp 𝕄} {sp : Space} {s : Shape} {e : EltTy} {src : Memref sig .tc sp s e}
    {hsrc : src.view.WordExact} {hdst : (slotM r).view.WordExact}
    {k : PUnit → Prog (TpuEff nD τ sig (Elt F) Λ₀ .tc) α}
    (h : iprop(ctx m K ∗ SC m c (r.val + 1) ∗ R) ⊢ run c (k ⟨⟩) Q) :
    iprop(ctx m K ∗ SC m c r.val ∗ R) ⊢ run c (.op (.waitDma2 (recvQ r) src (slotM r) hsrc hdst) k) Q := by
  unfold SC due at *
  rw [bigSep_upFrom]
  rw [bigSep_below] at h
  iintro ⟨#Hctx, ⟨⟨%W, HO⟩, ⟨⟨Hat, Hcr⟩, Hrest⟩, Hbuf, Hdone⟩, HR⟩
  iapply (Rounds.wp_wait_rest_token 𝒱₀ ER (rd m) (c : Thread nD τ) none (κ := K (c, .inr (.inr r))) (k' := N)
      (wpE_waitDma2_eq 𝒱₀ (c : Thread nD τ) none Set.univ (src := src) (dst := slotM r) (hsrc := hsrc) (hdst := hdst)) (Set.mem_univ _) () (O := 0) (W := W) (R := 0) (m := 0) (T := ∅)
      ((Nat.zero_add _).trans (expect_xfer m c (.inr r)).symm)) $$ [HO Hat Hcr]
  · isplitr; · iapply (ctx_inv m c (.inr (.inr r))); iexact Hctx
    isplitl [Hcr]; · iexact Hcr
    isplitl [HO]; · iexact HO
    isplitr; · rw [MayWait_zero]; iempintro
    iexact Hat
  iintro ⟨HO, Hat, -, Hpay⟩
  ihave Hslot := (Entails.of_eq (rest_recv m c r)) $$ Hpay
  ihave Hbuf' := (grow c r (commF m c)) $$ [Hbuf Hslot]
  · isplitl [Hbuf]; · iexact Hbuf
    iexact Hslot
  iapply h
  isplitr; · iexact Hctx
  isplitl [HO Hrest Hbuf' Hdone Hat]
  · isplitl [HO]
    · iexists _; iexact HO
    isplitl [Hrest]; · iexact Hrest
    isplitl [Hbuf']; · iexact Hbuf'
    isplitl [Hat] <;> iassumption
  · iexact HR

/-- The wait for send `r`: its rows have been read out. -/
theorem step_sent (r : Fin 15) {R : sProp 𝕄} {Q : α → sProp 𝕄} {sp : Space} {s : Shape} {e : EltTy} {src : Memref sig .tc sp s e}
    {hsrc : src.view.WordExact} {dst : Memref sig .tc .vmem S32x512 .bf16} (hd : dst.view.dmaCredit = N) {hdst : dst.view.WordExact}
    {k : PUnit → Prog (TpuEff nD τ sig (Elt F) Λ₀ .tc) α}
    (h : iprop(ctx m K ∗ SD m c (r.val + 1) ∗ R) ⊢ run c (k ⟨⟩) Q) :
    iprop(ctx m K ∗ SD m c r.val ∗ R) ⊢ run c (.op (.waitDma2 (sendQ r) src dst hsrc hdst) k) Q := by
  unfold SD due at *
  rw [bigSep_upFrom]
  rw [bigSep_below] at h
  iintro ⟨#Hctx, ⟨⟨%W, HO⟩, ⟨⟨Hat, Hcr⟩, Hrest⟩, Hdone⟩, HR⟩
  iapply (Rounds.wp_wait_rest_token 𝒱₀ ER (rd m) (c : Thread nD τ) none (κ := K (c, .inr (.inl r))) (k' := dst.view.dmaCredit)
      (wpE_waitDma2_eq 𝒱₀ (c : Thread nD τ) none Set.univ (src := src) (dst := dst) (hsrc := hsrc) (hdst := hdst)) (Set.mem_univ _) () (O := 0) (W := W) (R := 0) (m := 0) (T := ∅)
      ((Nat.zero_add _).trans (hd.trans (expect_xfer m c (.inl r)).symm))) $$ [HO Hat Hcr]
  · isplitr; · iapply (ctx_inv m c (.inr (.inl r))); iexact Hctx
    isplitl [Hcr]; · rw [hd]; iexact Hcr
    isplitl [HO]; · iexact HO
    isplitr; · rw [MayWait_zero]; iempintro
    iexact Hat
  iintro ⟨HO, Hat, -, Hpay⟩
  ihave Hrow := (Entails.of_eq (rest_send m c r)) $$ Hpay
  iapply h
  isplitr; · iexact Hctx
  isplitl [HO Hrest Hrow Hdone Hat]
  · isplitl [HO]
    · iexists _; iexact HO
    isplitl [Hrest]; · iexact Hrest
    isplitl [Hrow Hat]
    · isplitl [Hrow] <;> iassumption
    · iexact Hdone
  · iexact HR

end Cert.RS

end
-- ==== Proof.Phases.lean ====
/-
# The kernel's single stretches

Between the repeated steps of `Steps` lie three stretches each device goes through once — it forms the partial product
and waits at the barrier, copies its own rows to slot 0, stores the sum —, the loads of the two halves of the
communication buffer, and the end, where its semaphores are all at zero again.
-/
module

public import proofs.«01_k».proof.Proof.Steps
public import Idealize.ShloMosaic.Lib.Rounds.Family

@[expose] public section

noncomputable section

namespace Cert.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Splitting the scratch buffers -/

omit [FloatOps F] in
/-- The partial product is the device's own rows and the rows of its fifteen transfers. -/
theorem split0 (c : Dev nD) (f : (cc0_scratch0 : Ref sig .tc).ty.Contents (Elt F)) :
    (buf0 c Finset.univ f : sProp 𝕄) = iprop(buf0 c (rowSet c) f ∗ bigSep Finset.univ fun r : Fin 15 => rowPts c r f) := by
  have h := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Fin 16))
    (fun j => rowSet (fwd c j)) fun j _ j' _ hj => rowSet_disjoint fun he => hj ((fwd_bijective c).injective he)
  have h2 := (congrArg (fun S => (buf0 c S f : sProp 𝕄)) (rows_cover c)).symm.trans h
  refine h2.trans ((bigSep_first _).trans ?_)
  rw [fwd_zero]
  exact congrArg (fun X => iprop(buf0 c (rowSet c) f ∗ X)) (bigSep_congr fun r _ => (rowPts_eq c r f).symm)

omit [FloatOps F] in
/-- The communication buffer is slot 0 and the fifteen landing slots. -/
theorem split1 (c : Dev nD) (f : (cc0_scratch1 : Ref sig .tc).ty.Contents (Elt F)) :
    (buf1 c Finset.univ f : sProp 𝕄) = iprop(buf1 c (slotSet 0) f ∗ bigSep Finset.univ fun r : Fin 15 => slotPts c r f) := by
  have h := pointsTo_biUnion (nD := nD) (τ := τ) (sig := sig) (Ix := Unit) (Val := Elt F) (Name := ℕ) (U := UU) (Lvl := ℕ)
    (ℓ := (c : Thread nD τ).loc cc0_scratch1) (q := fullShare) (f := f) (Finset.univ : Finset (Fin 16))
    slotSet fun j _ j' _ hj => slotSet_disjoint hj
  have h2 := (congrArg (fun S => (buf1 c S f : sProp 𝕄)) slots_cover).symm.trans h
  refine h2.trans ((bigSep_first _).trans ?_)
  exact congrArg (fun X => iprop(buf1 c (slotSet 0) f ∗ X)) (bigSep_congr fun r _ => (slotPts_eq c r f).symm)

omit [FloatOps F] in
/-- Over a device's semaphores: its barrier, its sends, its receives. -/
theorem bigSep_CK (Φ : CK → sProp 𝕄) :
    bigSep Finset.univ Φ = iprop(Φ (.inl ()) ∗ (bigSep Finset.univ fun r => Φ (.inr (.inl r)))
      ∗ bigSep Finset.univ fun r => Φ (.inr (.inr r))) := by
  rw [bigSep_univ_sum, bigSep_univ_sum, Finset.univ_unique, bigSep_singleton]
  rfl

/-! ## The staging buffers -/

/-- The first argument as staged; -/
abbrev in0 (c : Dev nD) : sProp 𝕄 := ((c : Thread nD τ).loc cc0_stg0_0) ↦{fullShare} aStg m c
/-- the second; -/
abbrev in1 (c : Dev nD) : sProp 𝕄 := ((c : Thread nD τ).loc cc0_stg1_0) ↦{fullShare} bStg m c
/-- the result's staging buffer, holding `f`. -/
abbrev outB (c : Dev nD) (f : (cc0_stg2_0 : Ref sig .tc).ty.Contents (Elt F)) : sProp 𝕄 :=
  ((c : Thread nD τ).loc cc0_stg2_0) ↦{fullShare} f

/-- The offset of a whole buffer. -/
theorem zero2 : (![0, 0] : Fin 2 → Nat) = fun _ => 0 := funext fun a => by fin_cases a <;> rfl

/-! ## The partial product, and the barrier -/

variable {c : Dev nD} {K : Dev nD × CK → ℕ} {α : Type}

/-- The whole of the first argument's buffer, -/
abbrev rA : Rect S512x256 := Rect.unit (s := S512x256) ![0, 0] S512x256.size inb_S512x256_S512x256_0_0
/-- of the second's, -/
abbrev rB : Rect S256x512 := Rect.unit (s := S256x512) ![0, 0] S256x512.size inb_S256x512_S256x512_0_0
/-- of the partial product, -/
abbrev rP : Rect S512x512 := Rect.unit (s := S512x512) ![0, 0] S512x512.size inb_S512x512_S512x512_0_0
/-- of the result. -/
abbrev rO : Rect S32x512 := Rect.unit (s := S32x512) ![0, 0] S32x512.size inb_S32x512_S32x512_0_0

/-- Every signal given, the device forms its partial product and waits at its barrier for the fifteen others: it now
    holds the rows of each of its transfers and the slot each goes to. -/
theorem stretch_product {R : sProp 𝕄} {Q : α → sProp 𝕄}
    {hA : (Memref.whole cc0_stg0_0 : Memref sig .tc .vmem S512x256 .f32).view.LoadsAt rA.toLoadRect}
    {hB : (Memref.whole cc0_stg1_0 : Memref sig .tc .vmem S256x512 .f32).view.LoadsAt rB.toLoadRect}
    {hP : (Memref.whole cc0_scratch0 : Memref sig .tc .vmem S512x512 .bf16).view.LoadsAt rP.toLoadRect}
    {hx : ((Memref.whole cc0_scratch0 : Memref sig .tc .vmem S512x512 .bf16).access rP).Stores Finset.univ}
    {hm : (Finset.univ : Finset rP.shape.Idx) = Finset.univ ∨ ∀ a, rP.stride a = 1}
    {b : ℤ} (hb : b = ((15 : ℕ) : ℤ)) {k : PUnit → Prog (TpuEff nD τ sig (Elt F) Λ₀ .tc) α}
    (h : iprop(ctx m K ∗ SB m c 0 ∗ (in0 m c ∗ in1 m c ∗ atPos ER (barCell c) 1 ∅ 0 ∗ buf0 c (rowSet c) (partF m c)) ∗ R)
      ⊢ run c (k ⟨⟩) Q) :
    iprop(ctx m K ∗ SA c 15 ∗ (in0 m c ∗ in1 m c ∗ (∃ f, buf0 c Finset.univ f) ∗ atPos ER (barCell c) 0 ∅ 0
        ∗ cred (tallyAt (barCell c) () 15) ∗ bigSep Finset.univ fun r => sendToks c r) ∗ R)
      ⊢ run c (.op (.load (Memref.whole cc0_stg0_0) rA.toLoadRect hA) fun x =>
          .op (.load (Memref.whole cc0_stg1_0) rB.toLoadRect hB) fun y =>
          .op (.load (Memref.whole cc0_scratch0) rP.toLoadRect hP) fun _ =>
          .op (.store (Memref.whole cc0_scratch0) rP (k0_pay1 x y) Finset.univ hx hm) fun _ =>
          .op (.semWait barS b) k) Q := by
  subst hb
  unfold SA due
  iintro ⟨#Hctx, ⟨⟨%W, HO⟩, -⟩, ⟨HA, HB, ⟨%f, HP⟩, Hat, Hcr, Htoks⟩, HR⟩
  rw [owesB_last]
  iapply (wp_load 𝒱₀ (c : Thread nD τ) none Set.univ (m := Memref.whole cc0_stg0_0) (Finset.subset_univ _)) $$ HA; iintro HA
  rw [show (Memref.whole cc0_stg0_0).view.readAt (Elt F) rA.toLoadRect (aStg m c) = aStg m c from
    Memref.readAt_unit_zero (Elt F) cc0_stg0_0 zero2 _ _]
  iapply (wp_load 𝒱₀ (c : Thread nD τ) none Set.univ (m := Memref.whole cc0_stg1_0) (Finset.subset_univ _)) $$ HB; iintro HB
  rw [show (Memref.whole cc0_stg1_0).view.readAt (Elt F) rB.toLoadRect (bStg m c) = bStg m c from
    Memref.readAt_unit_zero (Elt F) cc0_stg1_0 zero2 _ _]
  iapply (wp_load 𝒱₀ (c : Thread nD τ) none Set.univ (m := Memref.whole cc0_scratch0) (Finset.subset_univ _)) $$ HP; iintro HP
  iapply (wp_store 𝒱₀ (c : Thread nD τ) none Set.univ (m := Memref.whole cc0_scratch0) (r := rP) (Mk := Finset.univ)
    (Finset.subset_univ _)) $$ HP; iintro HP
  rw [show ((Memref.whole cc0_scratch0).access rP : View sig .tc _ _ _).write (Elt F) f (k0_pay1 (aStg m c) (bStg m c)) Finset.univ
      = partF m c from Memref.write_access_unit_zero_univ (Elt F) cc0_scratch0 zero2 _ f _]
  iapply (Rounds.wp_wait_rest_token 𝒱₀ ER (rd m) (c : Thread nD τ) none (κ := K (c, .inl ())) (k' := 15)
      (wpE_semWait_eq 𝒱₀ (c : Thread nD τ) none Set.univ) (Set.mem_univ _) () (O := owesR c 0) (W := W) (R := 0) (m := 0) (T := ∅)
      ((Nat.zero_add _).trans (expect_bar m c).symm)) $$ [HO Hat Hcr]
  · isplitr; · iapply (ctx_inv m c (.inl ())); iexact Hctx
    isplitl [Hcr]; · iexact Hcr
    isplitl [HO]; · iexact HO
    isplitr
    · iapply (mayWait_bar c)
      unfold ctx
      icases Hctx with ⟨-, #Hlev⟩
      iexact Hlev
    iexact Hat
  iintro ⟨HO, Hat, -, Hpay⟩
  ihave Hpay := (Entails.of_eq (rest_bar m c)) $$ Hpay
  ihave HP := (Entails.of_eq (split0 c (partF m c))) $$ HP
  icases HP with ⟨Hown, Hrows⟩
  iapply h
  unfold SB due
  rw [upFrom_zero, below_zero, bigSep_empty, bigSep_sep', bigSep_sep']
  isplitr; · iexact Hctx
  isplitl [HO Htoks Hpay Hrows]
  · isplitl [HO]
    · iexists _; iexact HO
    isplitl
    · isplitl [Htoks]; · iexact Htoks
      isplitl [Hpay] <;> iassumption
    · iempintro
  isplitl [HA HB Hat Hown]
  · isplitl [HA]; · iexact HA
    isplitl [HB]; · iexact HB
    isplitl [Hat] <;> iassumption
  iexact HR

/-! ## The device's own rows -/

/-- The device's own rows of the partial product, -/
abbrev rRows (c : Dev nD) : Rect S512x512 := Rect.unit (s := S512x512) (k0_off2 c) S32x512.size (k0_off2_inb c)
/-- and slot 0, which they go to. -/
abbrev rSlot : Rect S16x32x512 := Rect.unit (s := S16x32x512) ![0, 0, 0] S1x32x512.size inb_S16x32x512_S1x32x512_0_0_0

/-- The own rows, as the set of their elements. -/
theorem rRows_set (c : Dev nD) : (rRows c).set = rowSet c := by
  unfold rowSet
  exact congrArg (fun r : Rect S512x512 => r.set) (Rect.unit_congr (k0_off2_eq c) (k0_off2_inb c) (inb_rows c))

/-- Elements of a buffer seen through its whole view are themselves. -/
theorem setOn_whole (b : Ref sig .tc) (S : Finset b.ty.shape.Idx) : (View.whole b).setOn S = S := Finset.map_refl

/-- The device's own rows, copied to slot 0, are what slot 0 is to hold. -/
theorem own_landed (c : Dev nD) (f : (cc0_scratch1 : Ref sig .tc).ty.Contents (Elt F)) :
    ∀ i ∈ slotSet 0, ((Memref.whole cc0_scratch1).access rSlot : View sig .tc _ _ _).write (Elt F) f
      (k0_pay2 ((Memref.whole cc0_scratch0).view.readAt (Elt F) (rRows c).toLoadRect (partF m c))) Finset.univ i = commF m c i := by
  intro i hi
  obtain ⟨u, x, y, rfl⟩ : ∃ (u : Fin 16) (x : Fin 32) (y : Fin 512), i = ix3 u x y := ⟨i 0, i 1, i 2, eq_ix3 i⟩
  obtain rfl : u = 0 := (mem_slotSet _ _).mp hi
  have he : ((Memref.whole cc0_scratch1).access rSlot : View sig .tc _ _ _).emb (ix3 (0 : Fin 1) x y) = ix3 (0 : Fin 16) x y := by
    funext a
    refine Fin.ext ((ValueKit.view_emb_slice_whole_unit_val cc0_scratch1 _ _ inb_S16x32x512_S1x32x512_0_0_0 _ a).trans ?_)
    match a with
    | ⟨0, _⟩ => rfl
    | ⟨1, _⟩ => exact Nat.zero_add _
    | ⟨2, _⟩ => exact Nat.zero_add _
  have hr : (rRows c).idx (ix2 x y) = ix2 (rowIx c x) y := by
    funext a
    refine Fin.ext ((ValueKit.rect_emb_unit_val _ _ (k0_off2_inb c) _ a).trans
      ((congrArg (· + (ix2 x y a).val) (congrFun (k0_off2_eq c) a)).trans ?_))
    match a with
    | ⟨0, _⟩ => rfl
    | ⟨1, _⟩ => exact Nat.zero_add _
  rw [← he, View.write_emb_of_mem _ _ (Finset.mem_univ _)]
  refine (cast_eq _ _).trans ?_
  rw [he]
  unfold k0_pay2
  refine (shapeCast_ab_1ab_apply (a := 32) (b := 512) _ _ 0 x y).trans ?_
  show partF m c ((rRows c).idx (ix2 x y)) = partF m (fwd c 0) _
  rw [hr, fwd_zero]

/-- Every transfer under way, the device copies its own rows to slot 0; the waits for the others begin. -/
theorem stretch_own {R : sProp 𝕄} {Q : α → sProp 𝕄}
    {hP : (Memref.whole cc0_scratch0 : Memref sig .tc .vmem S512x512 .bf16).view.LoadsAt (rRows c).toLoadRect}
    {hC : (Memref.whole cc0_scratch1 : Memref sig .tc .vmem S16x32x512 .bf16).view.LoadsAt rSlot.toLoadRect}
    {hx : ((Memref.whole cc0_scratch1 : Memref sig .tc .vmem S16x32x512 .bf16).access rSlot).Stores Finset.univ}
    {hm : (Finset.univ : Finset rSlot.shape.Idx) = Finset.univ ∨ ∀ a, rSlot.stride a = 1}
    {k : PUnit → Prog (TpuEff nD τ sig (Elt F) Λ₀ .tc) α}
    (h : iprop(ctx m K ∗ SC m c 0 ∗ (in0 m c ∗ in1 m c ∗ atPos ER (barCell c) 1 ∅ 0 ∗ buf0 c (rowSet c) (partF m c))
        ∗ (bigSep Finset.univ fun r => cred (tallyAt (sendCell c r) () N)) ∗ R) ⊢ run c (k ⟨⟩) Q) :
    iprop(ctx m K ∗ SB m c 15 ∗ (in0 m c ∗ in1 m c ∗ atPos ER (barCell c) 1 ∅ 0 ∗ buf0 c (rowSet c) (partF m c))
        ∗ (∃ f, buf1 c (slotSet 0) f)
        ∗ (bigSep Finset.univ fun r => iprop(atPos ER (recvCell c r) 0 ∅ 0 ∗ cred (tallyAt (recvCell c r) () N))) ∗ R)
      ⊢ run c (.op (.load (Memref.whole cc0_scratch0) (rRows c).toLoadRect hP) fun x =>
          .op (.load (Memref.whole cc0_scratch1) rSlot.toLoadRect hC) fun _ =>
          .op (.store (Memref.whole cc0_scratch1) rSlot (k0_pay2 x) Finset.univ hx hm) k) Q := by
  unfold SB
  rw [upFrom_last, below_last, bigSep_empty, owesR_last]
  iintro ⟨#Hctx, ⟨HO, -, Hcs⟩, ⟨HA, HB, Hat, Hown⟩, ⟨%f, Hslot⟩, Hrecv, HR⟩
  iapply (wp_load 𝒱₀ (c : Thread nD τ) none Set.univ (m := Memref.whole cc0_scratch0)
    (by rw [rRows_set]; exact (setOn_whole cc0_scratch0 _).subset)) $$ Hown; iintro Hown
  iapply (wp_load 𝒱₀ (c : Thread nD τ) none Set.univ (m := Memref.whole cc0_scratch1)
    (by exact (setOn_whole cc0_scratch1 _).subset)) $$ Hslot; iintro Hslot
  iapply (wp_store 𝒱₀ (c : Thread nD τ) none Set.univ (m := Memref.whole cc0_scratch1) (r := rSlot) (Mk := Finset.univ)
    (by rw [View.setOn_univ]; exact (View.set_slice_whole cc0_scratch1 rSlot).subset)) $$ Hslot; iintro Hslot
  ihave Hslot := (Entails.of_eq (pointsTo_congr (own_landed m c f))) $$ Hslot
  iapply h
  unfold SC
  rw [upFrom_zero, below_zero, bigSep_empty, lowSet_zero]
  isplitr; · iexact Hctx
  isplitl [HO Hrecv Hslot]
  · isplitl [HO]; · iexact HO
    isplitl [Hrecv]; · iexact Hrecv
    isplitl [Hslot]; · iexact Hslot
    iempintro
  isplitl [HA HB Hat Hown]
  · isplitl [HA]; · iexact HA
    isplitl [HB]; · iexact HB
    isplitl [Hat] <;> iassumption
  isplitl [Hcs] <;> iassumption

/-! ## The sums -/

/-- A load of slots that have all landed reads what they are to hold. -/
theorem step_load (n : ℕ) {lr : Rect S16x32x512} (hlr : lr.set ⊆ lowSet n) {R : sProp 𝕄} {Q : α → sProp 𝕄}
    {hC : (Memref.whole cc0_scratch1 : Memref sig .tc .vmem S16x32x512 .bf16).view.LoadsAt lr.toLoadRect}
    {k : _ → Prog (TpuEff nD τ sig (Elt F) Λ₀ .tc) α}
    (h : iprop(ctx m K ∗ SC m c n ∗ R)
      ⊢ run c (k ((Memref.whole cc0_scratch1).view.readAt (Elt F) lr.toLoadRect (commF m c))) Q) :
    iprop(ctx m K ∗ SC m c n ∗ R) ⊢ run c (.op (.load (Memref.whole cc0_scratch1) lr.toLoadRect hC) k) Q := by
  unfold SC at *
  iintro ⟨#Hctx, ⟨HO, Hrecv, Hbuf, Hdone⟩, HR⟩
  iapply (wp_load 𝒱₀ (c : Thread nD τ) none Set.univ (m := Memref.whole cc0_scratch1)
    (by exact (setOn_whole cc0_scratch1 lr.set).subset.trans hlr)) $$ Hbuf; iintro Hbuf
  iapply h
  isplitr; · iexact Hctx
  isplitl [HO Hrecv Hbuf Hdone]
  · isplitl [HO]; · iexact HO
    isplitl [Hrecv]; · iexact Hrecv
    isplitl [Hbuf] <;> iassumption
  iexact HR

/-- The first eight slots are landed when the first seven transfers are. -/
theorem lo_sub : loM.set ⊆ lowSet 7 := by
  intro i hi
  obtain ⟨x, hx, he⟩ := LoadRect.mem_set _ |>.mp hi 0
  change x < 8 at hx
  have he' : (i 0).val = 0 + 1 * x := he
  exact Finset.mem_filter.mpr ⟨Finset.mem_univ _, by omega⟩

/-- All blocks landed and added up, the device stores the sum; the waits for its own transfers begin. -/
theorem stretch_store {R : sProp 𝕄} {Q : α → sProp 𝕄}
    {hO : (Memref.whole cc0_stg2_0 : Memref sig .tc .vmem S32x512 .f32).view.LoadsAt rO.toLoadRect}
    {hx : ((Memref.whole cc0_stg2_0 : Memref sig .tc .vmem S32x512 .f32).access rO).Stores Finset.univ}
    {hm : (Finset.univ : Finset rO.shape.Idx) = Finset.univ ∨ ∀ a, rO.stride a = 1}
    {k : PUnit → Prog (TpuEff nD τ sig (Elt F) Λ₀ .tc) α}
    (h : iprop(ctx m K ∗ SD m c 0 ∗ (in0 m c ∗ in1 m c ∗ atPos ER (barCell c) 1 ∅ 0 ∗ buf0 c (rowSet c) (partF m c))
        ∗ buf1 c Finset.univ (commF m c) ∗ (bigSep Finset.univ fun r => atPos ER (recvCell c r) 1 ∅ 0) ∗ outB c (outAt m c) ∗ R)
      ⊢ run c (k ⟨⟩) Q) :
    iprop(ctx m K ∗ SC m c 15 ∗ (in0 m c ∗ in1 m c ∗ atPos ER (barCell c) 1 ∅ 0 ∗ buf0 c (rowSet c) (partF m c))
        ∗ (bigSep Finset.univ fun r => cred (tallyAt (sendCell c r) () N))
        ∗ (bigSep Finset.univ fun r => atPos ER (sendCell c r) 0 ∅ 0) ∗ (∃ f, outB c f) ∗ R)
      ⊢ run c (.op (.load (Memref.whole cc0_stg2_0) rO.toLoadRect hO) fun _ =>
          .op (.store (Memref.whole cc0_stg2_0) rO (outAt m c) Finset.univ hx hm) k) Q := by
  unfold SC
  rw [upFrom_last, below_last, bigSep_empty, lowSet_last]
  iintro ⟨#Hctx, ⟨HO, -, Hbuf, Hdone⟩, Hin, Hcs, Hat, ⟨%f, Hout⟩, HR⟩
  iapply (wp_load 𝒱₀ (c : Thread nD τ) none Set.univ (m := Memref.whole cc0_stg2_0) (Finset.subset_univ _)) $$ Hout; iintro Hout
  iapply (wp_store 𝒱₀ (c : Thread nD τ) none Set.univ (m := Memref.whole cc0_stg2_0) (r := rO) (Mk := Finset.univ)
    (Finset.subset_univ _)) $$ Hout; iintro Hout
  rw [show ((Memref.whole cc0_stg2_0).access rO : View sig .tc _ _ _).write (Elt F) f (outAt m c) Finset.univ = outAt m c from
    Memref.write_access_unit_zero_univ (Elt F) cc0_stg2_0 zero2 _ f _]
  iapply h
  unfold SD
  rw [upFrom_zero, below_zero, bigSep_empty, bigSep_sep']
  isplitr; · iexact Hctx
  isplitl [HO Hcs Hat]
  · isplitl [HO]; · iexact HO
    isplitl [Hcs Hat]
    · isplitl [Hat] <;> iassumption
    · iempintro
  isplitl [Hin]; · iexact Hin
  isplitl [Hbuf]; · iexact Hbuf
  isplitl [Hdone]; · iexact Hdone
  isplitl [Hout] <;> iassumption

/-! ## The end -/

/-- Every wait made, the device's semaphores are all at zero, its scratch buffers whole, and nothing is owed. -/
theorem stretch_end :
    iprop(ctx m K ∗ SD m c 15 ∗ (in0 m c ∗ in1 m c ∗ atPos ER (barCell c) 1 ∅ 0 ∗ buf0 c (rowSet c) (partF m c))
        ∗ buf1 c Finset.univ (commF m c) ∗ (bigSep Finset.univ fun r => atPos ER (recvCell c r) 1 ∅ 0) ∗ outB c (outAt m c)
        ∗ spare c)
      ⊢ run c (.ret ⟨⟩) fun _ : PUnit => iprop(Φ₁ c ∗ due c 0 ∗ in0 m c ∗ in1 m c ∗ outB c (outAt m c)) := by
  have hclose : iprop(ctx m K ∗ bigSep Finset.univ fun k : CK => atPos ER (kcell (c, k)) 1 ∅ 0)
      ⊢ (|={Set.univ}=> bigSep Finset.univ fun k : CK => semVal (kcell (c, k)) 0 : sProp 𝕄) :=
    BI.Entails.trans (bigSep_with_persistent (R := ctx m K) fun k _ => by
      iintro ⟨#Hctx, Hat⟩
      isplitr; · iapply (ctx_inv m c k); iexact Hctx
      iexact Hat) (Rounds.cells_close ER (rd m) Finset.univ (fun k : CK => kcell (c, k)) (fun k => K (c, k))
        (fun _ _ => Set.mem_univ _) (fun _ _ h => h) (fun _ => 1) (fun k _ => duties_later m (kcell (c, k))))
  unfold SD
  rw [upFrom_last, below_last, bigSep_empty, bigSep_sep']
  iintro ⟨#Hctx, ⟨HO, -, Hrows, HatS⟩, ⟨HA, HB, HatB, Hown⟩, Hbuf, HatV, Hout, Hsp⟩
  imod hclose $$ [HatS HatB HatV] with Hz
  · isplitr; · iexact Hctx
    rw [bigSep_CK]
    isplitl [HatB]; · iexact HatB
    isplitl [HatS] <;> iassumption
  rw [wp_ret]; imodintro
  unfold Φ₁ scratch
  isplitl [Hrows Hown Hbuf Hsp Hz]
  · isplitl [Hrows Hown Hbuf]
    · isplitl [Hrows Hown]
      · iexists (partF m c)
        iapply (Entails.of_eq (split0 c (partF m c)).symm)
        isplitl [Hown] <;> iassumption
      · iexists (commF m c); iexact Hbuf
    isplitl [Hsp] <;> iassumption
  isplitl [HO]; · iexact HO
  isplitl [HA]; · iexact HA
  isplitl [HB] <;> iassumption

end Cert.RS

end
-- ==== Proof.Body.lean ====
/-
# The kernel's body

The body of one device: its operations one after another, each by the lemma for its kind of step.
-/
module

public import proofs.«01_k».proof.Proof.Phases

@[expose] public section

noncomputable section

namespace Cert.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the body starts from. -/
def bodyStart (K : Dev nD × CK → ℕ) (c : Dev nD) : sProp 𝕄 :=
  iprop(ctx m K ∗ SA c (0 : Fin 15).val
    ∗ (in0 m c ∗ in1 m c ∗ (∃ f, buf0 c Finset.univ f) ∗ atPos ER (barCell c) 0 ∅ 0 ∗ cred (tallyAt (barCell c) () 15)
      ∗ bigSep Finset.univ fun r => sendToks c r)
    ∗ (∃ f, buf1 c (slotSet 0) f)
    ∗ (bigSep Finset.univ fun r => iprop(atPos ER (recvCell c r) 0 ∅ 0 ∗ cred (tallyAt (recvCell c r) () N)))
    ∗ (bigSep Finset.univ fun r => atPos ER (sendCell c r) 0 ∅ 0)
    ∗ (∃ f, outB c f) ∗ spare c)

set_option maxRecDepth 4000 in
set_option maxHeartbeats 1000000 in
/-- The body is sound: from there it runs to the end, with the sum in its output staging buffer. -/
theorem sound_body (K : Dev nD × CK → ℕ) (c : Dev nD) :
    bodyStart m K c
      ⊢ run c
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2 cc0_scratch3)
          fun _ => iprop(Φ₁ c ∗ due c 0 ∗ in0 m c ∗ in1 m c ∗ outB c (outAt m c)) := by
  unfold bodyStart
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  refine step_signal m 0 (Fin.ext (k0_dev1_eq c)) (by decide) ?_
  refine step_signal m 1 (Fin.ext (k0_dev2_eq c)) (by decide) ?_
  refine step_signal m 2 (Fin.ext (k0_dev3_eq c)) (by decide) ?_
  refine step_signal m 3 (Fin.ext (k0_dev4_eq c)) (by decide) ?_
  refine step_signal m 4 (Fin.ext (k0_dev5_eq c)) (by decide) ?_
  refine step_signal m 5 (Fin.ext (k0_dev6_eq c)) (by decide) ?_
  refine step_signal m 6 (Fin.ext (k0_dev7_eq c)) (by decide) ?_
  refine step_signal m 7 (Fin.ext (k0_dev8_eq c)) (by decide) ?_
  refine step_signal m 8 (Fin.ext (k0_dev9_eq c)) (by decide) ?_
  refine step_signal m 9 (Fin.ext (k0_dev10_eq c)) (by decide) ?_
  refine step_signal m 10 (Fin.ext (k0_dev11_eq c)) (by decide) ?_
  refine step_signal m 11 (Fin.ext (k0_dev12_eq c)) (by decide) ?_
  refine step_signal m 12 (Fin.ext (k0_dev13_eq c)) (by decide) ?_
  refine step_signal m 13 (Fin.ext (k0_dev14_eq c)) (by decide) ?_
  refine step_signal m 14 (Fin.ext (k0_dev15_eq c)) (by decide) ?_
  refine stretch_product m (by decide) ?_
  refine step_send m 0 (by exact Fin.ext (k0_dev16_eq c)) ?_
  refine step_send m 1 (by exact Fin.ext (k0_dev17_eq c)) ?_
  refine step_send m 2 (by exact Fin.ext (k0_dev18_eq c)) ?_
  refine step_send m 3 (by exact Fin.ext (k0_dev19_eq c)) ?_
  refine step_send m 4 (by exact Fin.ext (k0_dev20_eq c)) ?_
  refine step_send m 5 (by exact Fin.ext (k0_dev21_eq c)) ?_
  refine step_send m 6 (by exact Fin.ext (k0_dev22_eq c)) ?_
  refine step_send m 7 (by exact Fin.ext (k0_dev23_eq c)) ?_
  refine step_send m 8 (by exact Fin.ext (k0_dev24_eq c)) ?_
  refine step_send m 9 (by exact Fin.ext (k0_dev25_eq c)) ?_
  refine step_send m 10 (by exact Fin.ext (k0_dev26_eq c)) ?_
  refine step_send m 11 (by exact Fin.ext (k0_dev27_eq c)) ?_
  refine step_send m 12 (by exact Fin.ext (k0_dev28_eq c)) ?_
  refine step_send m 13 (by exact Fin.ext (k0_dev29_eq c)) ?_
  refine step_send m 14 (by exact Fin.ext (k0_dev30_eq c)) ?_
  refine stretch_own m ?_
  refine step_recv m 0 ?_
  refine step_recv m 1 ?_
  refine step_recv m 2 ?_
  refine step_recv m 3 ?_
  refine step_recv m 4 ?_
  refine step_recv m 5 ?_
  refine step_recv m 6 ?_
  refine step_load m 7 lo_sub ?_
  refine step_recv m 7 ?_
  refine step_recv m 8 ?_
  refine step_recv m 9 ?_
  refine step_recv m 10 ?_
  refine step_recv m 11 ?_
  refine step_recv m 12 ?_
  refine step_recv m 13 ?_
  refine step_recv m 14 ?_
  refine step_load m 15 (by rw [lowSet_last]; exact Finset.subset_univ _) ?_
  refine stretch_store m ?_
  refine step_sent m 0 (rowM_credit c 0) ?_
  refine step_sent m 1 (rowM_credit c 1) ?_
  refine step_sent m 2 (rowM_credit c 2) ?_
  refine step_sent m 3 (rowM_credit c 3) ?_
  refine step_sent m 4 (rowM_credit c 4) ?_
  refine step_sent m 5 (rowM_credit c 5) ?_
  refine step_sent m 6 (rowM_credit c 6) ?_
  refine step_sent m 7 (rowM_credit c 7) ?_
  refine step_sent m 8 (rowM_credit c 8) ?_
  refine step_sent m 9 (rowM_credit c 9) ?_
  refine step_sent m 10 (rowM_credit c 10) ?_
  refine step_sent m 11 (rowM_credit c 11) ?_
  refine step_sent m 12 (rowM_credit c 12) ?_
  refine step_sent m 13 (rowM_credit c 13) ?_
  refine step_sent m 14 (rowM_credit c 14) ?_
  exact stretch_end m

end Cert.RS

end
-- ==== Proof.Launch.lean ====
/-
# The launch

What the sixteen devices start from is made from the launch: the round states of the semaphores become invariants, the
rights to pay are carried to the devices that pay, and what is owed at each semaphore is that semaphore's credit.
`run_main` is the run of the whole program.
-/
module

public import proofs.«01_k».proof.Proof.Body
public import proofs.«01_k».proof.Proof.Gen.KernelIdeal.Points
public import Idealize.ShloMosaic.Lib.Pipeline.CollectiveSegs

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's obligation -/

/-- A staging buffer that holds `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body: the start state and the three staging buffers. -/
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- What the pipeline takes back: the end state, the arguments as staged, and the result computed. -/
def bodyPost (c : Dev nD) : sProp 𝕄 :=
  iprop(Φ₁ c ∗ (dats m 0 c).owesAt () t0_0.succ ∗ stg c cc0_stg0_0 (aStg m c) ∗ stg c cc0_stg1_0 (bStg m c)
    ∗ stg c cc0_stg2_0 (outAt m c))

/-- What the pipeline hands the body is what the body starts from. -/
theorem bodyStart_intro (c : Dev nD) : bodyPre m c ⊢ (∃ K, bodyStart m K c : sProp 𝕄) := by
  unfold bodyPre Φ₀ start G' linear payToks scratch Dat.owesAt Pipeline.owesWithin
  rw [show (dats m 0 c).owed t0_0.castSucc = owesB c 0 from rfl, bigSep_CK]
  iintro ⟨⟨⟨⟨⟨%K, #Hrec, ⟨HatB, HatS, HatV⟩, HtB, HtV, HtS⟩, Hsp⟩, HcB, HcV, #Hlev⟩, HP, ⟨%f1, HC⟩⟩, ⟨%W, %hW, HO⟩,
    ⟨%d0, %g0, %hg0, HA⟩, ⟨%d1, %g1, %hg1, HB⟩, ⟨%d2, %g2, %hg2, Hout⟩⟩
  have h0 : g0 = aStg m c := by rw [hg0]; unfold Dat.before; rw [if_pos (fetch0_0 t0_0)]; rfl
  have h1 : g1 = bStg m c := by rw [hg1]; unfold Dat.before; rw [if_pos (fetch0_1 t0_0)]; rfl
  subst h0 h1
  ihave HC := (Entails.of_eq (split1 c f1)) $$ HC
  icases HC with ⟨Hslot, Hslots⟩
  iexists K
  unfold bodyStart ctx SA due sendToks
  rw [show (0 : Fin 15).val = 0 from rfl, upFrom_zero, bigSep_sep', bigSep_sep', bigSep_sep']
  isplitr
  · isplitr; · iexact Hrec
    iexact Hlev
  isplitl [HO HtB Hslots]
  · isplitl [HO]; · iexists W; iexact HO
    isplitl [HtB]; · iexact HtB
    iapply (show (bigSep Finset.univ fun r : Fin 15 => (slotPts c r f1 : sProp 𝕄)) ⊢ bigSep Finset.univ fun r : Fin 15 => iprop(∃ f, slotPts c r f) from
      bigSep_mono fun r _ => show (slotPts c r f1 : sProp 𝕄) ⊢ iprop(∃ f, slotPts c r f) by iintro H; iexists f1; iexact H)
    iexact Hslots
  isplitl [HA HB HP HatB HcB HtV HtS]
  · isplitl [HA]; · iexact HA
    isplitl [HB]; · iexact HB
    isplitl [HP]; · iexact HP
    isplitl [HatB]; · iexact HatB
    isplitl [HcB]; · iexact HcB
    isplitl [HtV] <;> iassumption
  isplitl [Hslot]; · iexists f1; iexact Hslot
  isplitl [HatV HcV]
  · isplitl [HatV] <;> iassumption
  isplitl [HatS]; · iexact HatS
  isplitl [Hout]; · iexists g2; iexact Hout
  iexact Hsp

/-- What the body ends with is what the pipeline takes back. -/
theorem bodyPost_intro (c : Dev nD) :
    iprop(Φ₁ c ∗ due c 0 ∗ in0 m c ∗ in1 m c ∗ outB c (outAt m c)) ⊢ (bodyPost m c : sProp 𝕄) := by
  unfold bodyPost due Dat.owesAt Pipeline.owesWithin
  rw [show (dats m 0 c).owed t0_0.succ = 0 from rfl]
  iintro ⟨HΦ, ⟨%W, HO⟩, HA, HB, Hout⟩
  isplitl [HΦ]; · iexact HΦ
  isplitl [HO]
  · iexists W
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Hout

set_option maxRecDepth 4000 in
/-- The body's obligation at the one point of the grid. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_whole_eq]
  have h1 : (dats m 0 c).Φ t0_0.castSucc = Φ₀ m c := rfl
  have h2 : (dats m 0 c).Φ t0_0.succ = Φ₁ c := rfl
  have h3 : (dats m 0 c).after 0 t0_0 = aStg m c := rfl
  have h4 : (dats m 0 c).after 1 t0_0 = bStg m c := rfl
  have h5 : (dats m 0 c).after 2 t0_0 = outAt m c := rfl
  rw [h1, h2, h3, h4, h5]
  show _ ⊢ run c (bodyAt0 t0_0) _
  rw [← bodyPost.eq_1]
  change bodyPre m c ⊢ _
  have h6 : bodyAt0 (F := F) t0_0 =
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2 cc0_scratch3) := rfl
  rw [h6]
  refine (bodyStart_intro m c).trans ?_
  iintro ⟨%K, H⟩
  iapply ((sound_body m K c).trans (wp_mono _ _ _ fun _ => bodyPost_intro m c))
  iexact H

/-! ## What the launch mints -/

/-- The arrays are held in full. -/
theorem share_eq (c : Dev nD) (w : Fin cfg0.W) : (dats m 0 c).share w = fullShare := by unfold Dat.share; split <;> rfl

/-- All the semaphores that take part, on all devices. -/
def allCells : Finset (GSem nD τ sig) := Finset.univ.map ⟨kcell, kcell_injective⟩

/-- The duties of one device's semaphores: fifteen at the barrier, one at each send, one at each receive. -/
def tokAt : Fin 15 ⊕ (Fin 15 ⊕ Fin 15) → CK × Fin 15
  | .inl e => (.inl (), e)
  | .inr k => (.inr k, 0)
/-- Different duties of a device are different pairs of a semaphore and a duty number. -/
theorem tokAt_injective : Function.Injective tokAt := by
  rintro (e | k) (e' | k') h
  · exact congrArg Sum.inl (congrArg Prod.snd h)
  · exact absurd (congrArg Prod.fst h) (fun h' => by cases h')
  · exact absurd (congrArg Prod.fst h) (fun h' => by cases h')
  · exact congrArg Sum.inr (Sum.inr.inj (congrArg Prod.fst h))
/-- The same duties on all devices, each with its semaphore and round 0. -/
def tokOf (x : Dev nD × (Fin 15 ⊕ (Fin 15 ⊕ Fin 15))) : GSem nD τ sig × ℕ × Fin 15 :=
  (kcell (x.1, (tokAt x.2).1), 0, (tokAt x.2).2)
/-- Different devices and duties give different rights to pay. -/
theorem tokOf_injective : Function.Injective tokOf := by
  rintro ⟨c, j⟩ ⟨c', j'⟩ h
  have h1 := kcell_injective (congrArg Prod.fst h)
  have h2 : (tokAt j).2 = (tokAt j').2 := congrArg (fun x => x.2.2) h
  obtain rfl : c = c' := congrArg Prod.fst h1
  exact congrArg (Prod.mk c) (tokAt_injective (Prod.ext (congrArg Prod.snd h1) h2))
/-- All the rights to pay. -/
def allToks : Finset (GSem nD τ sig × ℕ × Fin 15) := Finset.univ.map ⟨tokOf, tokOf_injective⟩

/-- The ghost state at the start: the staging semaphores' and the protocol's. -/
def u₀ : UU :=
  (initOf (Pipeline.cells cfgs cellOf_inj) (Pipeline.launchToks cfgs cellOf_inj), initOf allCells allToks)

/-- The rights to pay into device `c`'s own semaphores. -/
def toks (c : Dev nD) : sProp 𝕄 :=
  iprop((bigSep Finset.univ fun e : Fin 15 => dutyTok ER (barCell c) 0 e)
    ∗ (bigSep Finset.univ fun r : Fin 15 => dutyTok ER (sendCell c r) 0 0)
    ∗ bigSep Finset.univ fun r : Fin 15 => dutyTok ER (recvCell c r) 0 0)

/-- What the launch deals device `c`. -/
def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)

/-- The ghost state at the start is every device's round states, positions and rights to pay. -/
theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores become invariants -/

omit [FloatOps F] in
/-- The kernel's own semaphores: the two unused ones, the sends and the receives. -/
theorem ownSems0_eq (c : Dev nD) : (Pipeline.ownSems0 (Ix := Unit) (Name := ℕ) (U := UU) (Lvl := ℕ) (Val := Elt F) (τ := τ) osem c : sProp 𝕄)
    = iprop(spare c ∗ (bigSep Finset.univ fun r : Fin 15 => semVal (sendCell c r) 0) ∗ bigSep Finset.univ fun r : Fin 15 => semVal (recvCell c r) 0) := by
  unfold Pipeline.ownSems0; rw [bigSep_univ_sum, bigSep_univ_sum]; rfl
omit [FloatOps F] in
/-- The barrier is the launch's one semaphore that no kernel declares. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero and their round states become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ spare c) := by
  unfold G
  rw [ownSems0_eq, unscopedSems0_eq]
  iintro ⟨⟨Hsp, HS, HV⟩, HB, Hst, Hat, Htok⟩
  imod (show iprop((bigSep Finset.univ fun k : CK => semVal (kcell (c, k)) 0) ∗ bigSep Finset.univ fun k : CK => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [HS HV HB Hst] with Hinv
  · isplitl [HS HV HB]
    · rw [bigSep_CK]
      isplitl [HB]; · iexact HB
      isplitl [HS] <;> iassumption
    · iexact Hst
  imodintro
  isplitl [Hinv]; · iexact Hinv
  isplitl [Hat]; · iexact Hat
  isplitl [Htok] <;> iassumption

/-! ## The rights to pay, carried to who pays -/

omit [FloatOps F] in
/-- A family over (device, transfer), seen from the other end of each transfer. -/
theorem around (Φ : Dev nD → Fin 15 → sProp 𝕄) :
    (bigSep Finset.univ fun c => bigSep Finset.univ fun r => Φ c r)
      = bigSep Finset.univ fun c => bigSep Finset.univ fun r : Fin 15 => Φ (tgt c r) r.rev := by
  rw [← bigSep_univ_prod (fun p : Dev nD × Fin 15 => Φ p.1 p.2), bigSep_univ_equiv swap, bigSep_univ_prod]
  rfl

omit [FloatOps F] in
/-- The rights to pay into every device's semaphores are the rights that every device needs for its own payments. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', around (fun c e => (dutyTok ER (barCell c) 0 e : sProp 𝕄)),
    around (fun c r => (dutyTok ER (recvCell c r) 0 0 : sProp 𝕄))]
  iintro ⟨H1, H2, H3⟩
  isplitl [H1]; · iexact H1
  isplitl [H3] <;> iassumption

/-- What a device holds after the regrouping is what it starts with. -/
theorem ghost_intro (K : Dev nD × CK → ℕ) (c : Dev nD) : iprop(records m K ∗ linear c ∗ spare c) ⊢ G' m c := by
  unfold G'
  iintro ⟨#HR, HL, Hsp⟩
  isplitl [HL]
  · iexists K
    isplitr; · iexact HR
    iexact HL
  iexact Hsp

/-- Invariants of all devices are known to all, and the rights to pay go to who pays. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ spare c) : sProp 𝕄)
      ⊢ bigSep Finset.univ (G' m) := by
  rw [bigSep_sep', bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hsp⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  unfold linear
  rw [bigSep_sep', bigSep_sep']
  isplitr
  · unfold records; isplitl; · iexact HI
    iexact HR
  isplitl [Hat Htk]
  · isplitl [Hat] <;> iassumption
  iexact Hsp

/-- From what the launch deals to what the devices start with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A sum over (device, transfer), seen from the other end of each transfer. -/
theorem sum_around (Φ : Dev nD → Fin 15 → ℕ) :
    (∑ d : Dev nD, ∑ r : Fin 15, Φ (tgt d r) r.rev) = ∑ p : Dev nD × Fin 15, Φ p.1 p.2 := by
  rw [← Equiv.sum_comp swap, Fintype.sum_prod_type]
  rfl

/-- All that is owed at a semaphore, counted by who is paid. -/
theorem owed_at (g : GSem nD τ sig) :
    ∑ d : Dev nD, owesB d 0 g ()
      = (∑ p : Dev nD × Fin 15, if g = recvCell p.1 p.2 then N else 0) + ∑ p : Dev nD × Fin 15, if g = barCell p.1 then 1 else 0 := by
  rw [← sum_around fun d r => if g = recvCell d r then N else 0, ← sum_around fun d _ => if g = barCell d then 1 else 0,
    ← Finset.sum_add_distrib]
  refine Finset.sum_congr rfl fun d _ => ?_
  unfold owesB owesR
  rw [Pi.add_apply, Finsupp.add_apply, sum_tally_apply, sum_tally_apply, upFrom_zero]
  refine congrArg₂ (· + ·) (Finset.sum_congr rfl fun r _ => ?_) (Finset.sum_congr rfl fun r _ => ?_) <;> rw [tallyAt_apply] <;>
    exact if_congr (and_iff_left rfl) rfl rfl

/-- At a receive, one transfer's credit is owed, by all devices together; -/
theorem owed_recv (c : Dev nD) (r : Fin 15) : ∑ d : Dev nD, owesB d 0 (recvCell c r) () = N := by
  rw [owed_at, Finset.sum_eq_single (c, r), if_pos rfl, Finset.sum_eq_zero, Nat.add_zero]
  · intro p _
    exact if_neg fun h => by have := congrArg Prod.snd (kcell_injective h); cases this
  · intro p _ hp
    refine if_neg fun h => hp ?_
    have h' := kcell_injective h
    exact Prod.ext (congrArg Prod.fst h').symm (Sum.inr.inj (Sum.inr.inj (congrArg Prod.snd h'))).symm
  · exact fun h => absurd (Finset.mem_univ _) h

/-- at a barrier, fifteen units. -/
theorem owed_bar (c : Dev nD) : ∑ d : Dev nD, owesB d 0 (barCell c) () = 15 := by
  rw [owed_at, Finset.sum_eq_zero, Nat.zero_add, Fintype.sum_prod_type, Finset.sum_eq_single c]
  · simp
  · intro d _ hd
    refine Finset.sum_eq_zero fun r _ => if_neg fun h => hd ?_
    exact (congrArg Prod.fst (kcell_injective h)).symm
  · exact fun h => absurd (Finset.mem_univ _) h
  · intro p _
    exact if_neg fun h => by have := congrArg Prod.snd (kcell_injective h); cases this

/-- The launch's credit at a semaphore is what all devices together owe there. -/
theorem launch_at (g : GSem nD τ sig) (n : ℕ) (h : ∑ d : Dev nD, owesB d 0 g () = n) :
    tallyOn g (launchCredit (Pipeline.owing fun d : Dev nD => owesB d 0) 0 g) = (tallyAt g () n : CellTallies nD τ sig Unit) := by
  unfold tallyAt; refine congrArg _ (Finsupp.ext fun u => ?_); cases u
  rw [Pipeline.launchCredit_owing, Finsupp.single_eq_same, h]

omit [FloatOps F] in
/-- The launch's credits hold a device's fifteen barrier units and the amount of each of its receives. -/
theorem creds (c : Dev nD) :
    (Pipeline.launchCred (fun d : Dev nD => owesB d 0) c : sProp 𝕄)
      ⊢ iprop(cred (tallyAt (barCell c) () 15) ∗ bigSep Finset.univ fun r : Fin 15 => cred (tallyAt (recvCell c r) () N)) := by
  unfold Pipeline.launchCred
  rw [bigSep_univ_at _ (SemLoc.reg barS), show ((c : Thread nD τ), SemLoc.reg barS) = barCell c from rfl, launch_at _ _ (owed_bar c)]
  refine sep_mono_right ?_
  refine (BI.bigSep_subset (s := Finset.univ.erase (SemLoc.reg barS))
    (t := Finset.univ.map ⟨fun r : Fin 15 => csem (.inr (.inr r)), fun r r' h => Sum.inr.inj (Sum.inr.inj (csem_injective h))⟩) ?_).trans ?_
  · intro s hs
    obtain ⟨r, -, rfl⟩ := Finset.mem_map.mp hs
    exact Finset.mem_erase.mpr ⟨fun h => (nomatch csem_injective (show csem (.inr (.inr r)) = csem (.inl ()) from h)), Finset.mem_univ _⟩
  · rw [bigSep_map]
    exact bigSep_mono fun r _ => Entails.of_eq (congrArg cred (launch_at _ _ (owed_recv c r)))

/-! ## The conditions of the launch theorem -/

/-- The launch gives a device its start state, -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d : Dev nD => owesB d 0) c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN] <;> iassumption
  · iempintro

/-- with its scratch buffers the body's; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- and the end state returns the semaphores at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  rw [bigSep_CK]
  iintro ⟨Hscr, Hsp, HB, HS, HV⟩
  isplitl [HB]; · iexact HB
  isplitl [Hsp HS HV]
  · isplitl [Hsp]; · iexact Hsp
    isplitl [HS] <;> iassumption
  iexact Hscr

/-- The pipeline's own waits are allowed: they come before the body, below all that is owed, or after it, when nothing is. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds after the run. -/
def finalA (c : Dev nD) (w : Fin cfg0.W) : Buf (Elt F) ((cfg0.win w).arr.view.loc (c : Thread nD τ)) := (dats m 0 c).arrAt w cfg0.N

/-- Every device's arrays hold that. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On sixteen devices, for any float values, from any memory with all semaphores at zero: every weakly fair execution
    of the program ends, every final state has each device's arrays at the computed contents, and every semaphore is
    at zero again. -/
theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owesB d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_a (c : Dev nD) : finalA m c (0 : Fin 3) = m (win0_0.arr.view.loc (c : Thread nD τ)) :=
  (dats (F := F) m 0 c).arrAt_in (0 : Fin 3) rfl _
/-- The second argument's. -/
theorem finalA_b (c : Dev nD) : finalA m c (1 : Fin 3) = m (win0_1.arr.view.loc (c : Thread nD τ)) :=
  (dats (F := F) m 0 c).arrAt_in (1 : Fin 3) rfl _

end Cert.RS

end
-- ==== Proof.Value.lean ====
/-
# The value: a block of rows of the product

Over the extended reals each device's partial product is a sum over its 256 positions of the contracted axis, a device's
result is the sum of the sixteen partial products at its rows, and the sixteen stretches of 256 positions are the 4096
positions of the whole product.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Pointwise.Sums
public import Idealize.ShloMosaic.Lib.Layout

@[expose] public section

noncomputable section

namespace Cert.RS

open Cert.KernelIdeal Cert.KernelIdeal.Gen

open Idealize.ShloMosaic hiding ix2 ix3 eq_ix2
open Idealize.ShloMosaic.TcCoe
open Idealize.ShloMosaic.ValueIdx
open Idealize.SL.Sem

/-! ## The arrays, read and written whole -/

section Arrays

variable {F : FTy → Type} [FloatOps F] (m : (ℓ : Loc nD τ sig) → Buf (Elt F) ℓ)

/-- The result array after the run holds the block of rows the device computed. -/
theorem finalA_o (c : Dev nD) : finalA m c (2 : Fin 3) = outAt m c := by
  have h : (win0_2.blk (0 : Fin 1)).view.read (Elt F) (finalA m c (2 : Fin 3)) = outAt m c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  rwa [show (win0_2.blk (0 : Fin 1)).view.read (Elt F) (finalA m c (2 : Fin 3)) = finalA m c (2 : Fin 3) from
    Memref.read_access_unit_zero (Elt F) main_v1 (funext fun a => by fin_cases a <;> decide) (fun a => by fin_cases a <;> decide) _] at h

/-- What a device finds staged of its first argument is the argument. -/
theorem aStg_eq (c : Dev nD) : aStg m c = m ((c : Thread nD τ).loc main_arg0) :=
  Memref.read_access_unit_zero (Elt F) main_arg0 (funext fun a => by fin_cases a <;> decide) (fun a => by fin_cases a <;> decide) _
/-- The second likewise. -/
theorem bStg_eq (c : Dev nD) : bStg m c = m ((c : Thread nD τ).loc main_arg1) :=
  Memref.read_access_unit_zero (Elt F) main_arg1 (funext fun a => by fin_cases a <;> decide) (fun a => by fin_cases a <;> decide) _

/-- A load of eight slots from slot `o` on, read at slot `k`, row `x`, column `y`: slot `o + k` of the buffer. -/
theorem comm_load (c : Dev nD) (o : Nat) (h : ∀ a, ![o, 0, 0] a + S8x32x512.size a ≤ S16x32x512.size a) (k : Fin 8) (hk : o + k.val < 16)
    (x : Fin 32) (y : Fin 512) :
    (Memref.whole cc0_scratch1).view.readAt (Elt F) (Rect.unit (s := S16x32x512) ![o, 0, 0] S8x32x512.size h).toLoadRect (commF m c) (ix3 k x y)
      = partF m (fwd c ⟨o + k.val, hk⟩) (ix2 (rowIx c x) y) := by
  have e : (Rect.unit (s := S16x32x512) ![o, 0, 0] S8x32x512.size h).emb (ix3 k x y) = (ix3 ⟨o + k.val, hk⟩ x y : S16x32x512.Idx) := by
    funext a
    refine Fin.ext ((ValueKit.rect_emb_unit_val _ _ _ _ _).trans ?_)
    match a with
    | ⟨0, _⟩ => rfl
    | ⟨1, _⟩ => exact Nat.zero_add _
    | ⟨2, _⟩ => exact Nat.zero_add _
  show commF m c ((Rect.unit (s := S16x32x512) ![o, 0, 0] S8x32x512.size h).emb (ix3 k x y)) = _
  rw [e]
  rfl

end Arrays

/-! ## The sums -/

variable (m : (ℓ : Loc nD τ sig) → Buf (Elt Ideal) ℓ)

/-- As tables of extended reals: a device's first argument; -/
def argA (c : Dev nD) : FVec Ideal S512x256 .f32 := m ((c : Thread nD τ).loc main_arg0)
/-- The second argument; -/
def argB (c : Dev nD) : FVec Ideal S256x512 .f32 := m ((c : Thread nD τ).loc main_arg1)
/-- the partial product; -/
def part (c : Dev nD) : FVec Ideal S512x512 .bf16 := partF m c
/-- the result. -/
def out (c : Dev nD) : FVec Ideal S32x512 .f32 := outAt m c

/-- A device's partial product at row `i`, column `y`. -/
theorem part_apply (c : Dev nD) (i y : Fin 512) :
    part m c (ix2 i y) = ∑ k : Fin 256, argA m c (ix2 i k) * argB m c (ix2 k y) := by
  unfold part partF k0_pay1
  rw [aStg_eq, bStg_eq]
  simp only [shapeCast_self]
  refine (Ideal.matmul_plain_apply (M := 512) (K := 256) (N := 512) none _ _ _ i y).trans ?_
  rw [show (constant (F := Ideal) S512x512 .f32 0x00000000#32) (ix2 i y) = 0 from Ideal.ofBits_zero_f32, zero_add]
  rfl

/-- Eight slots added up, at row `x`, column `y`. -/
theorem sum_apply (v : FVec Ideal S8x32x512 .f32) (x : Fin 32) (y : Fin 512) :
    multiReduction .add [0] S32x512 v 0x00000000#32 reduces_S8x32x512_S32x512 (.inl rfl) rfl (ix2 x y) = ∑ k : Fin 8, v (ix3 k x y) := by
  refine (Ideal.multiReduction_add_single v _ reduces_S8x32x512_S32x512 (.inl rfl) rfl (ix2 x y)).trans ?_
  refine Finset.sum_congr rfl fun k _ => congrArg v ?_
  funext a
  match a with
  | ⟨0, _⟩ => rfl
  | ⟨1, _⟩ => rfl
  | ⟨2, _⟩ => rfl

/-- A device's result at row `x`, column `y`: the sixteen partial products added up at that device's row `x`. -/
theorem out_apply (c : Dev nD) (x : Fin 32) (y : Fin 512) :
    out m c (ix2 x y) = ∑ e : Dev nD, part m e (ix2 (rowIx c x) y) := by
  have h : out m c (ix2 x y)
      = (∑ k : Fin 8, part m (fwd c ⟨k.val, by have := k.isLt; omega⟩) (ix2 (rowIx c x) y))
        + ∑ k : Fin 8, part m (fwd c ⟨8 + k.val, by have := k.isLt; omega⟩) (ix2 (rowIx c x) y) := by
    unfold out outAt k0_pay4 k0_pay3
    refine congrArg₂ (fun a b : EReal => a + b) ((sum_apply _ x y).trans (Finset.sum_congr rfl fun k _ => ?_))
      ((sum_apply _ x y).trans (Finset.sum_congr rfl fun k _ => ?_))
    · refine (comm_load m c 0 _ k (by have := k.isLt; omega) x y).trans ?_
      exact congrArg (fun j => part m (fwd c j) (ix2 (rowIx c x) y)) (Fin.ext (Nat.zero_add _))
    · exact comm_load m c 8 _ k (by have := k.isLt; omega) x y
  rw [h]
  refine (Fin.sum_univ_two_halves 8 8 rfl fun j : Fin 16 => part m (fwd c j) (ix2 (rowIx c x) y)).symm.trans ?_
  exact (fwd_bijective c).sum_comp fun e => part m e (ix2 (rowIx c x) y)

/-! ## Against the product -/

/-- The whole product. -/
def prod (A : FVec Ideal ⟨2, ![512, 4096]⟩ .f32) (B : FVec Ideal ⟨2, ![4096, 512]⟩ .f32) : FVec Ideal ⟨2, ![512, 512]⟩ .f32 :=
  Host.dotGeneral (DotDims.plain 512 4096 512) none A B

/-- When every device holds its block of columns of `A` and its block of rows of `B`, device `c` computes its block of
    rows of the product of `A` and `B`. -/
theorem out_eq_block (A : FVec Ideal ⟨2, ![512, 4096]⟩ .f32) (B : FVec Ideal ⟨2, ![4096, 512]⟩ .f32)
    (hA : ∀ c : Dev nD, m ((c : Thread nD τ).loc main_arg0) = Layout.block ⟨2, ![512, 256]⟩ ⟨2, ![512, 4096]⟩ 1 16 c A)
    (hB : ∀ c : Dev nD, m ((c : Thread nD τ).loc main_arg1) = Layout.block ⟨2, ![256, 512]⟩ ⟨2, ![4096, 512]⟩ 0 16 c B) (c : Dev nD) :
    out m c = Layout.block ⟨2, ![32, 512]⟩ ⟨2, ![512, 512]⟩ 0 16 c (prod A B) := by
  funext i
  obtain ⟨x, y, rfl⟩ : ∃ (x : Fin 32) (y : Fin 512), i = ix2 x y := ⟨i 0, i 1, eq_ix2 i⟩
  have hrow : (show Layout.Tiles ⟨2, ![32, 512]⟩ ⟨2, ![512, 512]⟩ 0 16 by decide).idx c (ix2 x y) = ix2 (rowIx c x) y := by
    funext a
    match a with
    | ⟨0, _⟩ => exact Fin.ext (congrArg (· + x.val) (Nat.mul_comm _ _))
    | ⟨1, _⟩ => rfl
  rw [Layout.block_apply, hrow, out_apply]
  refine Eq.trans ?_ (StackMember.dotGeneral_plain_apply none A B (rowIx c x) y).symm
  refine Eq.trans ?_ (Fin.sum_univ_tiles 16 256 rfl fun K : Fin 4096 => A (ix2 (rowIx c x) K) * B (ix2 K y)).symm
  refine Finset.sum_congr rfl fun e _ => (part_apply m e _ y).trans (Finset.sum_congr rfl fun k _ => ?_)
  unfold argA argB
  rw [hA e, hB e, Layout.block_apply, Layout.block_apply]
  refine congrArg₂ (fun a b : EReal => a * b) (congrArg A ?_) (congrArg B ?_)
  all_goals
    funext a
    match a with
    | ⟨0, _⟩ => rfl
    | ⟨1, _⟩ => rfl

end Cert.RS

end
-- ==== Proof.lean ====
/-
# The claims of the reduce-scatter matrix product

The run of the kernel is `Cert.RS.run_main` (Proof/Launch.lean), proved once for any float values: with machine words it
is the printed kernel's run, with extended reals the idealized kernel's.  What the result array holds then is
`Cert.RS.out_eq_block` (Proof/Value.lean).  The reference's run is generated (Proof/Gen/ReferenceIdeal/Run.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- With any float values the kernel ends, leaves its arguments as they were, and leaves every semaphore at zero. -/
theorem frame_any {F : FTy → Type} [FloatOps F]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (RS.finalA_a m c), (h.1 c (1 : Fin 3)).trans (RS.finalA_b m c)⟩, h.2⟩)
    (RS.run_main m g)

set_option smartUnfolding false in
/-- The kernel on machine words is the same program. -/
theorem frame_kernel : Cert.quiescent_Kernel (hKernel := Cert.Kernel.Gen.facts) := fun m g _ => frame_any (F := Bits) m g

/-- On extended reals. -/
theorem frame_ideal : Cert.quiescent_KernelIdeal (hKernelIdeal := Cert.KernelIdeal.Gen.facts) := fun m g _ => frame_any m g

/-- The reference ends too and leaves its arguments as they were; it has no semaphore. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run m g)

/-- On extended reals, when each device starts with its block of columns of `A` and its block of rows of `B`, it ends with
    its block of rows of the reference's product `A B`. -/
theorem value : Cert.algebraic_KernelIdeal_ReferenceIdeal (hKernelIdeal := Cert.KernelIdeal.Gen.facts)
    (hReferenceIdeal := Cert.ReferenceIdeal.Gen.facts) := fun m g m' g' _ hargs =>
  ⟨RS.prod (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (RS.finalA_o m c)).trans
          (RS.out_eq_block m _ _ (fun c => (hargs c).1) (fun c => (hargs c).2) c),
        (h.1 c (0 : Fin 3)).trans (RS.finalA_a m c), (h.1 c (1 : Fin 3)).trans (RS.finalA_b m c)⟩)
      (RS.run_main (F := Ideal) m g),
    (θ_run Cert.ReferenceIdeal.defs _ _).mono (fun _ h => h 0) (Cert.ReferenceIdeal.Value.run m' g')⟩

/-- All five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
